-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S4x256x4096 : Shape := ⟨3, ![4, 256, 4096]⟩
abbrev S3x256x4096 : Shape := ⟨3, ![3, 256, 4096]⟩
abbrev S2x256x4096 : Shape := ⟨3, ![2, 256, 4096]⟩
abbrev S256x4096 : Shape := ⟨2, ![256, 4096]⟩
abbrev S3 : Shape := ⟨1, ![3]⟩
abbrev S4 : Shape := ⟨1, ![4]⟩
abbrev S2 : Shape := ⟨1, ![2]⟩
abbrev S_ : Shape := ⟨0, ![]⟩
abbrev S1 : Shape := ⟨1, ![1]⟩
abbrev S1x256x4096 : Shape := ⟨3, ![1, 256, 4096]⟩
abbrev S256 : Shape := ⟨1, ![256]⟩
abbrev S256x1 : Shape := ⟨2, ![256, 1]⟩
abbrev S1x4096 : Shape := ⟨2, ![1, 4096]⟩

abbrev nBuf : Space → Nat
  | .hbm => 4
  | .vmem => 9
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S4096, .f32⟩
  | .local _ .vmem, ⟨1, _⟩ => ⟨S4x256x4096, .bf16⟩
  | .local _ .vmem, ⟨2, _⟩ => ⟨S4x256x4096, .bf16⟩
  | .local _ .vmem, ⟨3, _⟩ => ⟨S3x256x4096, .bf16⟩
  | .local _ .vmem, ⟨4, _⟩ => ⟨S2x256x4096, .f32⟩
  | .local _ .vmem, ⟨5, _⟩ => ⟨S2x256x4096, .f32⟩
  | .local _ .vmem, ⟨6, _⟩ => ⟨S3x256x4096, .bf16⟩
  | .local _ .vmem, ⟨7, _⟩ => ⟨S256x4096, .f32⟩
  | .local _ .vmem, ⟨8, _⟩ => ⟨S256x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_7 : BitVec 32 := 8#32
  let v15 : BitVec 32 := Scalar.muli v2 c8_i32_7
  let v16 : BitVec 32 := Scalar.addi c0_i32 v15
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_8 : BitVec 32 := 4#32
  let v17 : BitVec 32 := Scalar.muli v9 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_11 : BitVec 32 := 8#32
  let v21 : BitVec 32 := Scalar.muli v10 c8_i32_11
  let v22 : BitVec 32 := Scalar.addi c0_i32_12 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) : Fin 3 → Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_21 : BitVec 32 := 0#32
  ![0, v11.toNat, 0]
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let c0_i32_26 : BitVec 32 := 0#32
  ![v11.toNat, 0]
def k0_off3 (d0 : Dev nD) (c256_i32 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let v38 : BitVec 32 := Scalar.addi v11 c256_i32
  let c0_i32_31 : BitVec 32 := 0#32
  ![v38.toNat, 0]
def k0_off4 (d0 : Dev nD) (c256_i32_32 : BitVec 32) : Fin 3 → Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2048_i32 : BitVec 32 := 2048#32
  let v11 : BitVec 32 := Scalar.muli v2 c2048_i32
  let v44 : BitVec 32 := Scalar.addi v11 c256_i32_32
  let c0_i32_38 : BitVec 32 := 0#32
  ![0, v44.toNat, 0]
def k0_dev3 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_54 : BitVec 32 := 8#32
  let v63 : BitVec 32 := Scalar.muli v2 c8_i32_54
  let v64 : BitVec 32 := Scalar.addi c0_i32_55 v63
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_56 : BitVec 32 := 4#32
  let v65 : BitVec 32 := Scalar.muli v9 c4_i32_56
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v67 : BitVec 32 := Scalar.muli v8 c1_i32_57
  let v68 : BitVec 32 := Scalar.addi v66 v67
  v68.toNat
def k0_dev4 (d0 : Dev nD) : Nat :=
  let c0_i32_85 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_84 : BitVec 32 := 8#32
  let v97 : BitVec 32 := Scalar.muli v2 c8_i32_84
  let v98 : BitVec 32 := Scalar.addi c0_i32_85 v97
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_86 : BitVec 32 := 4#32
  let v99 : BitVec 32 := Scalar.muli v9 c4_i32_86
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v101 : BitVec 32 := Scalar.muli v8 c1_i32_87
  let v102 : BitVec 32 := Scalar.addi v100 v101
  v102.toNat
def k0_dev5 (d0 : Dev nD) : Nat :=
  let c0_i32_133 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_132 : BitVec 32 := 8#32
  let v150 : BitVec 32 := Scalar.muli v10 c8_i32_132
  let v151 : BitVec 32 := Scalar.addi c0_i32_133 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_134 : BitVec 32 := 4#32
  let v152 : BitVec 32 := Scalar.muli v5 c4_i32_134
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v154 : BitVec 32 := Scalar.muli v8 c1_i32_135
  let v155 : BitVec 32 := Scalar.addi v153 v154
  v155.toNat
def k0_dev6 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v203 : BitVec 32 := Scalar.muli v2 c8_i32_169
  let v204 : BitVec 32 := Scalar.addi c0_i32_170 v203
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_171 : BitVec 32 := 4#32
  let v205 : BitVec 32 := Scalar.muli v9 c4_i32_171
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v207 : BitVec 32 := Scalar.muli v8 c1_i32_172
  let v208 : BitVec 32 := Scalar.addi v206 v207
  v208.toNat
def k0_dev7 (d0 : Dev nD) : Nat :=
  let c0_i32_218 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_217 : BitVec 32 := 8#32
  let v256 : BitVec 32 := Scalar.muli v10 c8_i32_217
  let v257 : BitVec 32 := Scalar.addi c0_i32_218 v256
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_219 : BitVec 32 := 4#32
  let v258 : BitVec 32 := Scalar.muli v5 c4_i32_219
  let v259 : BitVec 32 := Scalar.addi v257 v258
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v260 : BitVec 32 := Scalar.muli v8 c1_i32_220
  let v261 : BitVec 32 := Scalar.addi v259 v260
  v261.toNat
def k0_off5 (d0 : Dev nD) (c0_i32_262 : BitVec 32) : Fin 2 → Nat :=
  let c1_i32_4 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v12 : BitVec 32 := Scalar.subi c1_i32_4 v2
  let c2048_i32_5 : BitVec 32 := 2048#32
  let v13 : BitVec 32 := Scalar.muli v12 c2048_i32_5
  let v331 : BitVec 32 := Scalar.addi v13 c0_i32_262
  let c0_i32_263 : BitVec 32 := 0#32
  ![v331.toNat, 0]
def k0_dev8 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v352 : BitVec 32 := Scalar.muli v2 c8_i32_289
  let v353 : BitVec 32 := Scalar.addi c0_i32_290 v352
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_291 : BitVec 32 := 4#32
  let v354 : BitVec 32 := Scalar.muli v9 c4_i32_291
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v356 : BitVec 32 := Scalar.muli v8 c1_i32_292
  let v357 : BitVec 32 := Scalar.addi v355 v356
  v357.toNat
def k0_dev9 (d0 : Dev nD) : Nat :=
  let c0_i32_338 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_337 : BitVec 32 := 8#32
  let v405 : BitVec 32 := Scalar.muli v10 c8_i32_337
  let v406 : BitVec 32 := Scalar.addi c0_i32_338 v405
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_339 : BitVec 32 := 4#32
  let v407 : BitVec 32 := Scalar.muli v5 c4_i32_339
  let v408 : BitVec 32 := Scalar.addi v406 v407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v409 : BitVec 32 := Scalar.muli v8 c1_i32_340
  let v410 : BitVec 32 := Scalar.addi v408 v409
  v410.toNat
def k0_dev10 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_412 : BitVec 32 := 8#32
  let v503 : BitVec 32 := Scalar.muli v2 c8_i32_412
  let v504 : BitVec 32 := Scalar.addi c0_i32_413 v503
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_414 : BitVec 32 := 4#32
  let v505 : BitVec 32 := Scalar.muli v9 c4_i32_414
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v507 : BitVec 32 := Scalar.muli v8 c1_i32_415
  let v508 : BitVec 32 := Scalar.addi v506 v507
  v508.toNat
def k0_dev11 (d0 : Dev nD) : Nat :=
  let c0_i32_469 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_468 : BitVec 32 := 8#32
  let v562 : BitVec 32 := Scalar.muli v10 c8_i32_468
  let v563 : BitVec 32 := Scalar.addi c0_i32_469 v562
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_470 : BitVec 32 := 4#32
  let v564 : BitVec 32 := Scalar.muli v5 c4_i32_470
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v566 : BitVec 32 := Scalar.muli v8 c1_i32_471
  let v567 : BitVec 32 := Scalar.addi v565 v566
  v567.toNat
def k0_dev12 (d0 : Dev nD) : Nat :=
  let c0_i32_544 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_543 : BitVec 32 := 8#32
  let v660 : BitVec 32 := Scalar.muli v2 c8_i32_543
  let v661 : BitVec 32 := Scalar.addi c0_i32_544 v660
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_545 : BitVec 32 := 4#32
  let v662 : BitVec 32 := Scalar.muli v9 c4_i32_545
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_546 : BitVec 32 := 1#32
  let v664 : BitVec 32 := Scalar.muli v8 c1_i32_546
  let v665 : BitVec 32 := Scalar.addi v663 v664
  v665.toNat
def k0_dev13 (d0 : Dev nD) : Nat :=
  let c0_i32_601 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_600 : BitVec 32 := 8#32
  let v719 : BitVec 32 := Scalar.muli v10 c8_i32_600
  let v720 : BitVec 32 := Scalar.addi c0_i32_601 v719
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_602 : BitVec 32 := 4#32
  let v721 : BitVec 32 := Scalar.muli v5 c4_i32_602
  let v722 : BitVec 32 := Scalar.addi v720 v721
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_603 : BitVec 32 := 1#32
  let v723 : BitVec 32 := Scalar.muli v8 c1_i32_603
  let v724 : BitVec 32 := Scalar.addi v722 v723
  v724.toNat
def k0_dev14 (d0 : Dev nD) : Nat :=
  let c0_i32_676 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_675 : BitVec 32 := 8#32
  let v817 : BitVec 32 := Scalar.muli v2 c8_i32_675
  let v818 : BitVec 32 := Scalar.addi c0_i32_676 v817
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_677 : BitVec 32 := 4#32
  let v819 : BitVec 32 := Scalar.muli v9 c4_i32_677
  let v820 : BitVec 32 := Scalar.addi v818 v819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_678 : BitVec 32 := 1#32
  let v821 : BitVec 32 := Scalar.muli v8 c1_i32_678
  let v822 : BitVec 32 := Scalar.addi v820 v821
  v822.toNat
def k0_dev15 (d0 : Dev nD) : Nat :=
  let c0_i32_727 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_726 : BitVec 32 := 8#32
  let v869 : BitVec 32 := Scalar.muli v10 c8_i32_726
  let v870 : BitVec 32 := Scalar.addi c0_i32_727 v869
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_728 : BitVec 32 := 4#32
  let v871 : BitVec 32 := Scalar.muli v5 c4_i32_728
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_729 : BitVec 32 := 1#32
  let v873 : BitVec 32 := Scalar.muli v8 c1_i32_729
  let v874 : BitVec 32 := Scalar.addi v872 v873
  v874.toNat
def k0_dev16 (d0 : Dev nD) : Nat :=
  let c0_i32_802 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_801 : BitVec 32 := 8#32
  let v967 : BitVec 32 := Scalar.muli v2 c8_i32_801
  let v968 : BitVec 32 := Scalar.addi c0_i32_802 v967
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_803 : BitVec 32 := 4#32
  let v969 : BitVec 32 := Scalar.muli v9 c4_i32_803
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_804 : BitVec 32 := 1#32
  let v971 : BitVec 32 := Scalar.muli v8 c1_i32_804
  let v972 : BitVec 32 := Scalar.addi v970 v971
  v972.toNat
def k0_dev17 (d0 : Dev nD) : Nat :=
  let c0_i32_853 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_852 : BitVec 32 := 8#32
  let v1019 : BitVec 32 := Scalar.muli v10 c8_i32_852
  let v1020 : BitVec 32 := Scalar.addi c0_i32_853 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_854 : BitVec 32 := 4#32
  let v1021 : BitVec 32 := Scalar.muli v5 c4_i32_854
  let v1022 : BitVec 32 := Scalar.addi v1020 v1021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_855 : BitVec 32 := 1#32
  let v1023 : BitVec 32 := Scalar.muli v8 c1_i32_855
  let v1024 : BitVec 32 := Scalar.addi v1022 v1023
  v1024.toNat
def k0_dev18 (d0 : Dev nD) : Nat :=
  let c0_i32_939 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_938 : BitVec 32 := 8#32
  let v1130 : BitVec 32 := Scalar.muli v10 c8_i32_938
  let v1131 : BitVec 32 := Scalar.addi c0_i32_939 v1130
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_940 : BitVec 32 := 4#32
  let v1132 : BitVec 32 := Scalar.muli v5 c4_i32_940
  let v1133 : BitVec 32 := Scalar.addi v1131 v1132
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v1134 : BitVec 32 := Scalar.muli v8 c1_i32_941
  let v1135 : BitVec 32 := Scalar.addi v1133 v1134
  v1135.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Loop.lean ====
/- The kernel's body as the loop it was written as.

   The printed body is straight-line: ten iterations unrolled, each buffer slot, semaphore and row
   offset a literal. Here the same program is written over a block number `j`: `sendY`, `sendX`
   (a block's remote copy to the neighbour along y, along x), `startP`, `startR` (loads from HBM),
   `stepA`, `stepB` (the two halves of the output), `cast` (a partial block narrowed for sending).
   `body_eq` says that the printed body is the loop, by unfolding. -/
module

public import proofs.«01_k».proof.Proof.Gen.KernelIdeal.Launch
public import proofs.«01_k».proof.Proof.Gen.KernelIdeal.Skeleton

@[expose] public section

noncomputable section

namespace Cert.KernelIdeal.Pf

open Idealize.ShloMosaic Idealize.SL.Sem
open Cert.KernelIdeal.Gen

variable {F : FTy → Type} [FloatOps F]

/-! ## Buffers and slots -/

/-- `n` slots of a block of 256 rows. -/
abbrev SN (n : ℕ) : Shape := ⟨3, ![n, 256, 4096]⟩

abbrev aP : Memref sig .tc .hbm S1x4096x4096 .f32 := Memref.whole main_arg0
abbrev aR : Memref sig .tc .hbm S4096x4096 .f32 := Memref.whole main_arg1
abbrev aO : Memref sig .tc .hbm S4096x4096 .f32 := Memref.whole main_v1
/-- Landing slots of the copies along y, along x; blocks being sent along y, along x; loads of
    the partial sums, of the residual; the two output blocks. -/
abbrev ohA : Memref sig .tc .vmem (SN 4) .bf16 := Memref.whole cc0_scratch0
abbrev ohB : Memref sig .tc .vmem (SN 4) .bf16 := Memref.whole cc0_scratch1
abbrev pbA : Memref sig .tc .vmem (SN 3) .bf16 := Memref.whole cc0_scratch2
abbrev pbF : Memref sig .tc .vmem (SN 2) .f32 := Memref.whole cc0_scratch3
abbrev rdA : Memref sig .tc .vmem (SN 2) .f32 := Memref.whole cc0_scratch4
abbrev fwd : Memref sig .tc .vmem (SN 3) .bf16 := Memref.whole cc0_scratch5
abbrev ouA : Memref sig .tc .vmem S256x4096 .f32 := Memref.whole cc0_scratch6
abbrev ouB : Memref sig .tc .vmem S256x4096 .f32 := Memref.whole cc0_scratch7

theorem slot_inb {n : ℕ} (s : Fin n) : ∀ a, (![s.val, 0, 0] : Fin 3 → ℕ) a + S1x256x4096.size a ≤ (SN n).size a := by
  have := s.isLt
  intro a; fin_cases a <;> simp <;> omega

/-- Slot `s` of `n`, as a box of the buffer. -/
abbrev sbox (n : ℕ) (s : Fin n) : Rect (SN n) := Rect.unit (s := SN n) ![s.val, 0, 0] S1x256x4096.size (slot_inb s)

/-- Slot `s` of a buffer of slots. -/
abbrev slot {n : ℕ} {e : EltTy} (W : Memref sig .tc .vmem (SN n) e) (s : Fin n) : Memref sig .tc .vmem S256x4096 e :=
  (W.slice (sbox n s) (fun _ => rfl)).squeeze S256x4096 squeezes_S1x256x4096_S256x4096

/-- The slot of block `j`. -/
abbrev md (n : ℕ) (j : ℕ) (h : 0 < n := by decide) : Fin n := ⟨j % n, Nat.mod_lt _ h⟩

/-! ## Rows of the arrays in HBM -/

/-- Block `j` of the device's own half of the partial sums. -/
def offP (d : Dev nD) : Fin 8 → Fin 3 → ℕ
  | 0 => k0_off1 d
  | ⟨j + 1, _⟩ => k0_off4 d (BitVec.ofNat 32 (256 + 256 * j))

theorem offP_inb (d : Dev nD) (j : Fin 8) : ∀ a, offP d j a + S1x256x4096.size a ≤ S1x4096x4096.size a := by
  match j with
  | 0 => exact k0_off1_inb d
  | ⟨j + 1, h⟩ =>
    exact k0_off4_inb d ⟨j, by omega⟩

/-- Block `j` of the partial sums, as the copies name it. -/
abbrev rowP (d : Dev nD) (j : Fin 8) : Memref sig .tc .hbm S256x4096 .f32 :=
  (aP.slice (Rect.unit (s := S1x4096x4096) (offP d j) S1x256x4096.size (offP_inb d j)) (fun _ => rfl)).squeeze S256x4096 squeezes_S1x256x4096_S256x4096

/-- Block `j` of the device's own half, of the other half of the rows. -/
abbrev offA (d : Dev nD) (j : Fin 8) : Fin 2 → ℕ := k0_off3 d (BitVec.ofNat 32 (256 * j.val))
abbrev offB (d : Dev nD) (j : Fin 8) : Fin 2 → ℕ := k0_off5 d (BitVec.ofNat 32 (256 * j.val))

abbrev rowR (d : Dev nD) (j : Fin 8) : Memref sig .tc .hbm S256x4096 .f32 :=
  aR.slice (Rect.unit (s := S4096x4096) (offA d j) S256x4096.size (k0_off3_inb d j)) (fun _ => rfl)
abbrev rowOA (d : Dev nD) (j : Fin 8) : Memref sig .tc .hbm S256x4096 .f32 :=
  aO.slice (Rect.unit (s := S4096x4096) (offA d j) S256x4096.size (k0_off3_inb d j)) (fun _ => rfl)
abbrev rowOB (d : Dev nD) (j : Fin 8) : Memref sig .tc .hbm S256x4096 .f32 :=
  aO.slice (Rect.unit (s := S4096x4096) (offB d j) S256x4096.size (k0_off5_inb d j)) (fun _ => rfl)

/-- The first residual block is addressed by its row alone. -/
abbrev rowR0 (d : Dev nD) : Memref sig .tc .hbm S256x4096 .f32 :=
  aR.slice (Rect.unit (s := S4096x4096) (k0_off2 d) S256x4096.size (k0_off2_inb d)) (fun _ => rfl)

/-! ## Semaphores -/

/-- Departure and arrival of the copies along y, along x; the loads; the stores. -/
abbrev yS (s : Fin 3) : DmaSem sig := ⟨1 + s.val, by have := s.isLt; show 1 + s.val < 21; omega⟩
abbrev yR (s : Fin 4) : DmaSem sig := ⟨4 + s.val, by have := s.isLt; show 4 + s.val < 21; omega⟩
abbrev xS (s : Fin 3) : DmaSem sig := ⟨8 + s.val, by have := s.isLt; show 8 + s.val < 21; omega⟩
abbrev xR (s : Fin 4) : DmaSem sig := ⟨11 + s.val, by have := s.isLt; show 11 + s.val < 21; omega⟩
abbrev lP (s : Fin 2) : DmaSem sig := ⟨15 + s.val, by have := s.isLt; show 15 + s.val < 21; omega⟩
abbrev lR (s : Fin 2) : DmaSem sig := ⟨17 + s.val, by have := s.isLt; show 17 + s.val < 21; omega⟩
abbrev stA : DmaSem sig := (19 : Fin 21)
abbrev stB : DmaSem sig := (20 : Fin 21)
abbrev bar : Sem sig := (SemArray.scalar (sig.barrier 0 rfl) : Sems sig S_).sem

/-! ## Side conditions of the accesses, for every slot -/

theorem we4 {W : Memref sig .tc .vmem (SN 4) .bf16} (hW : W.IsWhole) (s : Fin 4) : (slot W s).view.WordExact := by
  fin_cases s
  · exact (hW.wordExact_slice rfl _ wordsbf16_S4x256x4096_S1x256x4096_0_0_0).reshape _ _
  · exact (hW.wordExact_slice rfl _ wordsbf16_S4x256x4096_S1x256x4096_1_0_0).reshape _ _
  · exact (hW.wordExact_slice rfl _ wordsbf16_S4x256x4096_S1x256x4096_2_0_0).reshape _ _
  · exact (hW.wordExact_slice rfl _ wordsbf16_S4x256x4096_S1x256x4096_3_0_0).reshape _ _

theorem we3 {W : Memref sig .tc .vmem (SN 3) .bf16} (hW : W.IsWhole) (s : Fin 3) : (slot W s).view.WordExact := by
  fin_cases s
  · exact (hW.wordExact_slice rfl _ wordsbf16_S3x256x4096_S1x256x4096_0_0_0).reshape _ _
  · exact (hW.wordExact_slice rfl _ wordsbf16_S3x256x4096_S1x256x4096_1_0_0).reshape _ _
  · exact (hW.wordExact_slice rfl _ wordsbf16_S3x256x4096_S1x256x4096_2_0_0).reshape _ _

theorem we2 (W : Memref sig .tc .vmem (SN 2) .f32) (s : Fin 2) : (slot W s).view.WordExact :=
  (View.wordExact_bits rfl).reshape _ _

theorem st3 {W : Memref sig .tc .vmem (SN 3) .bf16} (hW : W.IsWhole) (s : Fin 3) : (W.access (sbox 3 s)).Stores Finset.univ := by
  fin_cases s
  · exact View.stores_vmem h_S1x256x4096 (hW.storeExact_slice rfl _ packedbf16_S3x256x4096_S1x256x4096_0_0_0) (fun _ => rfl)
  · exact View.stores_vmem h_S1x256x4096 (hW.storeExact_slice rfl _ packedbf16_S3x256x4096_S1x256x4096_1_0_0) (fun _ => rfl)
  · exact View.stores_vmem h_S1x256x4096 (hW.storeExact_slice rfl _ packedbf16_S3x256x4096_S1x256x4096_2_0_0) (fun _ => rfl)

/-! ## The payloads, one definition each -/

/-- The rows normalised and scaled by the weights. -/
def normV (y : FVec F S256x4096 .f32) (g : Vec F S4096 .f32) : FVec F S256x4096 .f32 := k0_pay11 y g
/-- A block of partial sums narrowed; the sum of a block; it narrowed; a forwarded block normalised. -/
def narrow (p : Vec F S1x256x4096 .f32) : FVec F S1x256x4096 .bf16 := k0_pay1 p
def ySum (p q : Vec F S1x256x4096 .bf16) (r : Vec F S1x256x4096 .f32) : FVec F S256x4096 .f32 := k0_pay9 p q r
def yFwd (p q : Vec F S1x256x4096 .bf16) (r : Vec F S1x256x4096 .f32) : FVec F S1x256x4096 .bf16 := k0_pay10 p q r
def normB (b : Vec F S1x256x4096 .bf16) (g : Vec F S4096 .f32) : FVec F S256x4096 .f32 := k0_pay12 b g

/-! ## The loop's phases -/

/-- Programs of the body's core. -/
abbrev BProg (F : FTy → Type) [FloatOps F] (α : Type) := Prog (TpuEff nD τ sig (Elt F) Λ₀ .tc) α

/-- A load of slot `s`, of a whole buffer. -/
abbrev loadS {n : ℕ} {e : EltTy} (W : Memref sig .tc .vmem (SN n) e) (s : Fin n) : BProg F (Vec F S1x256x4096 e) :=
  Prog.lift (.load W (sbox n s).toLoadRect (View.loadsAt_vmem h_S1x256x4096))
abbrev loadG (G : Memref sig .tc .vmem S4096 .f32) : BProg F (Vec F S4096 .f32) :=
  Prog.lift (.load G (Rect.unit (s := S4096) ![0] S4096.size inb_S4096_S4096_0).toLoadRect (View.loadsAt_vmem h_S4096))
abbrev loadO (W : Memref sig .tc .vmem S256x4096 .f32) : BProg F (Vec F S256x4096 .f32) :=
  Prog.lift (.load W (Rect.unit (s := S256x4096) ![0, 0] S256x4096.size inb_S256x4096_S256x4096_0_0).toLoadRect (View.loadsAt_vmem h_S256x4096))
abbrev storeS (W : Memref sig .tc .vmem (SN 3) .bf16) (hW : W.IsWhole) (s : Fin 3) (v : Vec F S1x256x4096 .bf16) : BProg F PUnit :=
  Prog.lift (.store W (sbox 3 s) v Finset.univ (st3 hW s) (.inl rfl))
abbrev storeO (W : Memref sig .tc .vmem S256x4096 .f32) (v : Vec F S256x4096 .f32) : BProg F PUnit :=
  Prog.lift (.store W (Rect.unit (s := S256x4096) ![0, 0] S256x4096.size inb_S256x4096_S256x4096_0_0) v Finset.univ (View.stores_vmem_bits_univ h_S256x4096 rfl) (.inl rfl))

/-- The remote copy of a sending slot to a landing slot of device `t`. -/
abbrev send (src : Memref sig .tc .vmem (SN 3) .bf16) (hs : src.IsWhole) (dst : Memref sig .tc .vmem (SN 4) .bf16) (hd : dst.IsWhole)
    (t : Dev nD) (sS sR : DmaSem sig) (j : Fin 8) : BProg F PUnit :=
  Prog.lift (.enqueueDma (slot src (md 3 j)) (.remote (Dev.tc t) (slot dst (md 4 j)) (.dma sS)) (.dma sR) (we3 hs _) (we4 hd _) ⟨⟨rfl, Or.inl rfl⟩, trivial⟩)

/-- Block `j` of the partial sums to the neighbour along y; of the sums to the one along x. -/
abbrev sendY (t : Dev nD) (j : Fin 8) : BProg F PUnit := send pbA (Memref.isWhole_whole _) ohA (Memref.isWhole_whole _) t (yS (md 3 j)) (yR (md 4 j)) j
abbrev sendX (t : Dev nD) (j : Fin 8) : BProg F PUnit := send fwd (Memref.isWhole_whole _) ohB (Memref.isWhole_whole _) t (xS (md 3 j)) (xR (md 4 j)) j

/-- Waits for block `j` to have left, to have arrived. -/
abbrev waitSend (src : Memref sig .tc .vmem (SN 3) .bf16) (hs : src.IsWhole) (dst : Memref sig .tc .vmem (SN 4) .bf16) (hd : dst.IsWhole)
    (sS : DmaSem sig) (j : Fin 8) : BProg F PUnit :=
  Prog.lift (.waitDma2 sS (slot dst (md 4 j)) (slot src (md 3 j)) (we4 hd _) (we3 hs _))
abbrev waitRecv (src : Memref sig .tc .vmem (SN 3) .bf16) (hs : src.IsWhole) (dst : Memref sig .tc .vmem (SN 4) .bf16) (hd : dst.IsWhole)
    (sR : DmaSem sig) (j : Fin 8) : BProg F PUnit :=
  Prog.lift (.waitDma2 sR (slot src (md 3 j)) (slot dst (md 4 j)) (we3 hs _) (we4 hd _))
abbrev waitYS (j : Fin 8) : BProg F PUnit := waitSend pbA (Memref.isWhole_whole _) ohA (Memref.isWhole_whole _) (yS (md 3 j)) j
abbrev waitYR (j : Fin 8) : BProg F PUnit := waitRecv pbA (Memref.isWhole_whole _) ohA (Memref.isWhole_whole _) (yR (md 4 j)) j
abbrev waitXS (j : Fin 8) : BProg F PUnit := waitSend fwd (Memref.isWhole_whole _) ohB (Memref.isWhole_whole _) (xS (md 3 j)) j
abbrev waitXR (j : Fin 8) : BProg F PUnit := waitRecv fwd (Memref.isWhole_whole _) ohB (Memref.isWhole_whole _) (xR (md 4 j)) j

/-- Loads of block `j` of the partial sums, of the residual, started and waited for. -/
abbrev startP (d : Dev nD) (j : Fin 8) : BProg F PUnit :=
  Prog.lift (.enqueueDma (rowP d j) (.here (slot pbF (md 2 j))) (.dma (lP (md 2 j))) ((View.wordExact_bits rfl).reshape _ _) (we2 pbF _) ⟨Or.inl rfl, trivial⟩)
abbrev waitP (d : Dev nD) (j : Fin 8) : BProg F PUnit :=
  Prog.lift (.waitDma2 (lP (md 2 j)) (rowP d j) (slot pbF (md 2 j)) ((View.wordExact_bits rfl).reshape _ _) (we2 pbF _))
abbrev startRM (m : Memref sig .tc .hbm S256x4096 .f32) (j : Fin 8) : BProg F PUnit :=
  Prog.lift (.enqueueDma m (.here (slot rdA (md 2 j))) (.dma (lR (md 2 j))) (View.wordExact_bits rfl) (we2 rdA _) ⟨Or.inl rfl, trivial⟩)
abbrev startR (d : Dev nD) (j : Fin 8) : BProg F PUnit := startRM (rowR d j) j
abbrev waitR (d : Dev nD) (j : Fin 8) : BProg F PUnit :=
  Prog.lift (.waitDma2 (lR (md 2 j)) (rowR d j) (slot rdA (md 2 j)) (View.wordExact_bits rfl) (we2 rdA _))

/-- Stores of an output block, started and waited for. -/
abbrev startO (W : Memref sig .tc .vmem S256x4096 .f32) (hW : W.IsWhole) (m : Memref sig .tc .hbm S256x4096 .f32) (sm : DmaSem sig) : BProg F PUnit :=
  Prog.lift (.enqueueDma W (.here m) (.dma sm) hW.wordExact (View.wordExact_bits rfl) ⟨Or.inl rfl, trivial⟩)
abbrev waitO (W : Memref sig .tc .vmem S256x4096 .f32) (hW : W.IsWhole) (m : Memref sig .tc .hbm S256x4096 .f32) (sm : DmaSem sig) : BProg F PUnit :=
  Prog.lift (.waitDma2 sm W m hW.wordExact (View.wordExact_bits rfl))
abbrev startOA (d : Dev nD) (j : Fin 8) : BProg F PUnit := startO ouA (Memref.isWhole_whole _) (rowOA d j) stA
abbrev waitOA (d : Dev nD) (j : Fin 8) : BProg F PUnit := waitO ouA (Memref.isWhole_whole _) (rowOA d j) stA
abbrev startOB (d : Dev nD) (j : Fin 8) : BProg F PUnit := startO ouB (Memref.isWhole_whole _) (rowOB d j) stB
abbrev waitOB (d : Dev nD) (j : Fin 8) : BProg F PUnit := waitO ouB (Memref.isWhole_whole _) (rowOB d j) stB

/-- Block `j` of the partial sums, loaded, narrowed into its sending slot. -/
def cast (j : Fin 8) : BProg F PUnit := do
  let p ← loadS pbF (md 2 j)
  let _ ← loadS pbA (md 3 j)
  storeS pbA (Memref.isWhole_whole _) (md 3 j) (narrow p)

/-- The sum of block `j`, left in its sending slot along x; the sum is the result. -/
def sumA (j : Fin 8) : BProg F (FVec F S256x4096 .f32) := do
  let p ← loadS pbA (md 3 j)
  let q ← loadS ohA (md 4 j)
  let r ← loadS rdA (md 2 j)
  let _ ← loadS fwd (md 3 j)
  storeS fwd (Memref.isWhole_whole _) (md 3 j) (yFwd p q r)
  pure (ySum p q r)

/-- A block of the own half of the output. -/
def outA (G : Memref sig .tc .vmem S4096 .f32) (y : FVec F S256x4096 .f32) : BProg F PUnit := do
  let g ← loadG G
  let _ ← loadO ouA
  storeO ouA (normV y g)

/-- Block `j` of the other half of the output. -/
def outB (G : Memref sig .tc .vmem S4096 .f32) (j : Fin 8) : BProg F PUnit := do
  let b ← loadS ohB (md 4 j)
  let g ← loadG G
  let _ ← loadO ouB
  storeO ouB (normB b g)

/-- The neighbours along y and along x, as the program computes them. -/
abbrev yD (d : Dev nD) : Dev nD := ⟨k0_dev1 d, k0_dev1_lt d⟩
abbrev xD (d : Dev nD) : Dev nD := ⟨k0_dev2 d, k0_dev2_lt d⟩

/-- The body: the hand-shake with the two neighbours, the first loads, ten iterations, the last waits. -/
def loop (G : Memref sig .tc .vmem S4096 .f32) : BProg F PUnit := do
  let d ← Prog.lift .deviceId
  semSignalWord (yD d) bar 1#32
  semSignalWord (xD d) bar 1#32
  semWaitWord bar 2#32
  startP d 0
  startRM (rowR0 d) 0
  startR d 1
  startP d 1
  waitP d 0
  cast 0
  -- iteration 0
  sendY (yD d) 0
  startP d 2
  waitP d 1
  cast 1
  -- iteration 1
  sendY (yD d) 1
  startP d 3
  waitYR 0
  waitR d 0
  let y0 ← sumA 0
  sendX (xD d) 0
  outA G y0
  startOA d 0
  startR d 2
  waitP d 2
  cast 2
  -- iteration 2
  sendY (yD d) 2
  startP d 4
  waitYR 1
  waitR d 1
  let y1 ← sumA 1
  sendX (xD d) 1
  waitOA d 0
  outA G y1
  startOA d 1
  startR d 3
  waitXR 0
  outB G 0
  startOB d 0
  waitYS 0
  waitP d 3
  cast 3
  -- iteration 3
  sendY (yD d) 3
  startP d 5
  waitYR 2
  waitR d 2
  let y2 ← sumA 2
  sendX (xD d) 2
  waitOA d 1
  outA G y2
  startOA d 2
  startR d 4
  waitXR 1
  waitOB d 0
  outB G 1
  startOB d 1
  waitYS 1
  waitP d 4
  cast 4
  -- iteration 4
  sendY (yD d) 4
  startP d 6
  waitYR 3
  waitXS 0
  waitR d 3
  let y3 ← sumA 3
  sendX (xD d) 3
  waitOA d 2
  outA G y3
  startOA d 3
  startR d 5
  waitXR 2
  waitOB d 1
  outB G 2
  startOB d 2
  waitYS 2
  waitP d 5
  cast 5
  -- iteration 5
  sendY (yD d) 5
  startP d 7
  waitYR 4
  waitXS 1
  waitR d 4
  let y4 ← sumA 4
  sendX (xD d) 4
  waitOA d 3
  outA G y4
  startOA d 4
  startR d 6
  waitXR 3
  waitOB d 2
  outB G 3
  startOB d 3
  waitYS 3
  waitP d 6
  cast 6
  -- iteration 6
  sendY (yD d) 6
  waitYR 5
  waitXS 2
  waitR d 5
  let y5 ← sumA 5
  sendX (xD d) 5
  waitOA d 4
  outA G y5
  startOA d 5
  startR d 7
  waitXR 4
  waitOB d 3
  outB G 4
  startOB d 4
  waitYS 4
  waitP d 7
  cast 7
  -- iteration 7
  sendY (yD d) 7
  waitYR 6
  waitXS 3
  waitR d 6
  let y6 ← sumA 6
  sendX (xD d) 6
  waitOA d 5
  outA G y6
  startOA d 6
  waitXR 5
  waitOB d 4
  outB G 5
  startOB d 5
  -- iteration 8
  waitYR 7
  waitXS 4
  waitR d 7
  let y7 ← sumA 7
  sendX (xD d) 7
  waitOA d 6
  outA G y7
  startOA d 7
  waitXR 6
  waitOB d 5
  outB G 6
  startOB d 6
  -- iteration 9
  waitXR 7
  waitOB d 6
  outB G 7
  startOB d 7
  -- the copies and stores still in flight
  waitYS 5
  waitYS 6
  waitYS 7
  waitXS 5
  waitXS 6
  waitXS 7
  waitOA d 7
  waitOB d 7

set_option maxRecDepth 65536 in
/-- The printed body is the loop: by definitional unfolding. -/
theorem body_eq (G : Memref sig .tc .vmem S4096 .f32) (hG : G.IsWhole) :
    cc0_body (F := F) aP (Memref.isWhole_whole _) aR (Memref.isWhole_whole _) G hG aO (Memref.isWhole_whole _)
      ohA (Memref.isWhole_whole _) ohB (Memref.isWhole_whole _) pbA (Memref.isWhole_whole _) pbF (Memref.isWhole_whole _)
      rdA (Memref.isWhole_whole _) fwd (Memref.isWhole_whole _) ouA (Memref.isWhole_whole _) ouB (Memref.isWhole_whole _)
      cc0_scratch8 cc0_scratch9 cc0_scratch10 cc0_scratch11 cc0_scratch12 cc0_scratch13 cc0_scratch14 cc0_scratch15
      = loop G := rfl

end Cert.KernelIdeal.Pf

end
-- ==== Proof.Local.lean ====
/- A device's own steps: loads and stores of a slot, copies between HBM and a slot.

   A buffer of slots is held slot by slot, each `owns`ed at the 256 x 4096 block it holds. A load of
   a slot through the whole buffer returns that block with a leading unit axis (`un`), a store
   leaves the stored block without it (`sq`). A local copy is held as one assertion from its start
   to its wait (`Moving`). -/
module

public import proofs.«01_k».proof.Proof.Loop
public import Idealize.ShloMosaic.Lib.Pipeline.Launch
public import Idealize.ShloMosaic.Lib.Pipeline.Kit
public import Idealize.ShloMosaic.Lib.Tactic

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The protocol's rounds have duties named by booleans. -/
abbrev UB : Type := URounds (GSem nD τ sig) Bool
/-- The staging copies' rounds, the protocol's rounds, the counters of local copies. -/
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

/-- The weakest precondition of a program on device `c`'s core. -/
abbrev Wp {α : Type} (c : Dev nD) (p : BProg F α) (Q : α → sProp 𝕄) : sProp 𝕄 :=
  wp frame (wpE (defs₀ (F := F)) 𝒱₀ (c : Thread nD τ) none) Set.univ p Q

/-! ## Blocks with and without the leading unit axis -/

def sq {e : EltTy} (v : S1x256x4096.Idx → Elt F e) : S256x4096.Idx → Elt F e :=
  fun x => v (Shape.reshapeEquiv squeezes_S1x256x4096_S256x4096.numel_eq x)
def un {e : EltTy} (v : S256x4096.Idx → Elt F e) : S1x256x4096.Idx → Elt F e :=
  fun x => v ((Shape.reshapeEquiv squeezes_S1x256x4096_S256x4096.numel_eq).symm x)

omit [FloatOps F] in
theorem sq_un {e : EltTy} (v : S256x4096.Idx → Elt F e) : sq (un v) = v := by
  funext x; simp [sq, un]
omit [FloatOps F] in
theorem un_sq {e : EltTy} (v : S1x256x4096.Idx → Elt F e) : un (sq v) = v := by
  funext x; simp [sq, un]

section Slots
variable {n : ℕ} {e : EltTy} (W : Memref sig .tc .vmem (SN n) e) (s : Fin n)

theorem slot_set : (slot W s).view.set = (W.access (sbox n s)).set := View.set_reshape _ _

omit [FloatOps F] in
theorem slot_read (f : W.view.ty.Contents (Elt F)) : (slot W s).view.read (Elt F) f = sq ((W.access (sbox n s)).read (Elt F) f) := rfl

omit [FloatOps F] in
theorem access_read (f : W.view.ty.Contents (Elt F)) {X : S256x4096.Idx → Elt F e} (h : (slot W s).view.read (Elt F) f = X) :
    (W.access (sbox n s)).read (Elt F) f = un X := by
  rw [← h, slot_read, un_sq]

/-- A slot loaded through its buffer. -/
theorem wp_loadS {α : Type} {c : Dev nD} {q : PosShare TreeShare} {X : S256x4096.Idx → Elt F e}
    {k : Vec F S1x256x4096 e → BProg F α} {Q : α → sProp 𝕄} :
    (owns (c : Thread nD τ) (slot W s) q X : sProp 𝕄)
      ⊢ iprop((owns (c : Thread nD τ) (slot W s) q X -∗ Wp c (k (un X)) Q) -∗ Wp c (loadS W s >>= k) Q) := by
  unfold owns
  iintro ⟨%f, %hf, H⟩ Hk
  rw [slot_set]
  iapply (wp_load_rect 𝒱₀ (c : Thread nD τ) none Set.univ (m := W) (r := sbox n s) subset_rfl) $$ H
  iintro H
  rw [access_read W s f hf]
  iapply Hk
  iexists f
  isplitr; · ipureintro; exact hf
  iexact H

end Slots

/-- A slot stored through its buffer. -/
theorem wp_storeS {α : Type} {c : Dev nD} (W : Memref sig .tc .vmem (SN 3) .bf16) (hW : W.IsWhole) (s : Fin 3)
    {X : S256x4096.Idx → Elt F .bf16} {v : Vec F S1x256x4096 .bf16} {k : PUnit → BProg F α} {Q : α → sProp 𝕄} :
    (owns (c : Thread nD τ) (slot W s) fullShare X : sProp 𝕄)
      ⊢ iprop((owns (c : Thread nD τ) (slot W s) fullShare (sq v) -∗ Wp c (k ⟨⟩) Q) -∗ Wp c (storeS W hW s v >>= k) Q) := by
  unfold owns
  iintro ⟨%f, %hf, H⟩ Hk
  rw [slot_set]
  iapply (wp_store 𝒱₀ (c : Thread nD τ) none Set.univ (m := W) (r := sbox 3 s) (w := v) (Mk := Finset.univ) (View.setOn_subset_set _ _)) $$ H
  iintro H
  iapply Hk
  iexists _
  isplitr; swap; · iexact H
  ipureintro
  rw [slot_read, View.read_write_univ]

/-! ## Loads and stores of a whole buffer -/

theorem emb_full {s : Shape} {off : Fin s.rank → ℕ} (h : ∀ a, off a = 0) (inb : ∀ a, off a + s.size a ≤ s.size a) (i : s.Idx) :
    (Rect.unit (s := s) off s.size inb).emb i = i := by
  funext a
  apply Fin.ext
  show off a + 1 * (i a).val = (i a).val
  rw [h a]; omega

omit [FloatOps F] in
theorem read_full {sp : Space} {s : Shape} {e : EltTy} (W : Memref sig .tc sp s e) {off : Fin s.rank → ℕ} (h : ∀ a, off a = 0)
    (inb : ∀ a, off a + s.size a ≤ s.size a) (f : W.view.ty.Contents (Elt F)) :
    (W.access (Rect.unit (s := s) off s.size inb)).read (Elt F) f = W.view.read (Elt F) f := by
  funext i
  show W.view.read (Elt F) f ((Rect.unit (s := s) off s.size inb).emb i) = _
  rw [emb_full h]

section Whole
variable {α : Type} {c : Dev nD}

/-- An output block loaded. -/
theorem wp_loadO (W : Memref sig .tc .vmem S256x4096 .f32) {X : S256x4096.Idx → Elt F .f32} {k : Vec F S256x4096 .f32 → BProg F α}
    {q : PosShare TreeShare} {Q : α → sProp 𝕄} :
    (owns (c : Thread nD τ) W q X : sProp 𝕄)
      ⊢ iprop((owns (c : Thread nD τ) W q X -∗ Wp c (k X) Q) -∗ Wp c (loadO W >>= k) Q) := by
  unfold owns
  iintro ⟨%f, %hf, H⟩ Hk
  iapply (wp_load_rect 𝒱₀ (c : Thread nD τ) none Set.univ (m := W)
    (r := Rect.unit (s := S256x4096) ![0, 0] S256x4096.size inb_S256x4096_S256x4096_0_0) (View.set_slice_subset _ _)) $$ H
  iintro H
  rw [read_full W (fun a => by fin_cases a <;> rfl), hf]
  iapply Hk
  iexists f
  isplitr; · ipureintro; exact hf
  iexact H

/-- The weights loaded. -/
theorem wp_loadG (W : Memref sig .tc .vmem S4096 .f32) {X : S4096.Idx → Elt F .f32} {k : Vec F S4096 .f32 → BProg F α}
    {q : PosShare TreeShare} {Q : α → sProp 𝕄} :
    (owns (c : Thread nD τ) W q X : sProp 𝕄)
      ⊢ iprop((owns (c : Thread nD τ) W q X -∗ Wp c (k X) Q) -∗ Wp c (loadG W >>= k) Q) := by
  unfold owns
  iintro ⟨%f, %hf, H⟩ Hk
  iapply (wp_load_rect 𝒱₀ (c : Thread nD τ) none Set.univ (m := W)
    (r := Rect.unit (s := S4096) ![0] S4096.size inb_S4096_S4096_0) (View.set_slice_subset _ _)) $$ H
  iintro H
  rw [read_full W (fun a => by fin_cases a; rfl), hf]
  iapply Hk
  iexists f
  isplitr; · ipureintro; exact hf
  iexact H

/-- An output block stored. -/
theorem wp_storeO (W : Memref sig .tc .vmem S256x4096 .f32) {X v : S256x4096.Idx → Elt F .f32} {k : PUnit → BProg F α}
    {Q : α → sProp 𝕄} :
    (owns (c : Thread nD τ) W fullShare X : sProp 𝕄)
      ⊢ iprop((owns (c : Thread nD τ) W fullShare v -∗ Wp c (k ⟨⟩) Q) -∗ Wp c (storeO W v >>= k) Q) := by
  unfold owns
  iintro ⟨%f, %hf, H⟩ Hk
  iapply (wp_store 𝒱₀ (c : Thread nD τ) none Set.univ (m := W)
    (r := Rect.unit (s := S256x4096) ![0, 0] S256x4096.size inb_S256x4096_S256x4096_0_0) (w := v) (Mk := Finset.univ)
    ((View.setOn_subset_set _ _).trans (View.set_slice_subset _ _))) $$ H
  iintro H
  iapply Hk
  iexists _
  isplitr; swap; · iexact H
  ipureintro
  rw [← read_full W (off := ![0, 0]) (fun a => by fin_cases a <;> rfl) inb_S256x4096_S256x4096_0_0]
  exact View.read_write_univ _ _

end Whole

/-! ## Shares and windows -/

section Windows
variable {c : Thread nD τ} {sp sp' : Space} {s : Shape} {e : EltTy}

omit [FloatOps F] in
/-- Owning a memref at what it reads of `f` is the points-to of its elements at `f`. -/
theorem owns_read (m : Memref sig c.2.kind sp s e) (q : PosShare TreeShare) (f : Buf (Elt F) (m.view.loc c)) :
    (owns c m q (m.view.read (Elt F) f) : sProp 𝕄) ⊢ (m.view.loc c ↦[m.view.set]{q} f) := by
  unfold owns
  iintro ⟨%g, %hg, H⟩
  ihave H := (Entails.of_eq (show (m.view.loc c ↦[m.view.set]{q} g : sProp 𝕄) = (m.view.loc c ↦[m.view.set]{q} f) from
    pointsTo_congr fun i hi => by
      obtain ⟨x, -, rfl⟩ := Finset.mem_map.mp hi
      have := congrFun hg x
      simp only [View.read] at this
      exact (cast_inj _).mp this)) $$ H
  iexact H

omit [FloatOps F] in
/-- Owning splits into the two halves of the share, -/
theorem owns_halve (m : Memref sig c.2.kind sp s e) (q : PosShare TreeShare) (X : s.Idx → Elt F e) :
    (owns c m q X : sProp 𝕄) ⊢ iprop(owns c m q.left X ∗ owns c m q.right X) := by
  unfold owns
  iintro ⟨%f, %hf, H⟩
  ihave H := (pointsTo_share (PosShare.mem_left_op_right q)).1 $$ H
  icases H with ⟨H1, H2⟩
  isplitl [H1]
  · iexists f; isplitr; · ipureintro; exact hf
    iexact H1
  · iexists f; isplitr; · ipureintro; exact hf
    iexact H2

omit [FloatOps F] in
/-- and is whole again from them. -/
theorem owns_unhalve (m : Memref sig c.2.kind sp s e) (q : PosShare TreeShare) (X Y : s.Idx → Elt F e) :
    iprop(owns c m q.left X ∗ owns c m q.right Y) ⊢ (owns c m q Y : sProp 𝕄) := by
  unfold owns
  iintro ⟨⟨%f, %hf, H⟩, %g, %hg, H'⟩
  ihave %h := (pointsTo_agree) $$ [H H']
  · isplitl [H]; · iexact H
    iexact H'
  iexists g
  isplitr; · ipureintro; exact hg
  iapply (pointsTo_share (PosShare.mem_left_op_right q)).2
  ihave H := (Entails.of_eq (show (m.view.loc c ↦[m.view.set]{q.left} f : sProp 𝕄) = (m.view.loc c ↦[m.view.set]{q.left} g) from
    pointsTo_congr fun i hi => (h i (Finset.mem_inter.mpr ⟨hi, hi⟩)).1)) $$ H
  isplitl [H]; · iexact H
  iexact H'

end Windows

/-! ## Local copies -/

section Copies
variable {α : Type} {sp sp' : Space} {s : Shape} {e : EltTy}

/-- A local copy under way on semaphore `sm`: the wait for it hands over the destination at `X` and
    the lent share of the source. -/
def Moving (c : Dev nD) (sm : DmaSem sig) (src : Memref sig .tc sp s e) (dst : Memref sig .tc sp' s e)
    (q : PosShare TreeShare) (X : s.Idx → Elt F e) : sProp 𝕄 :=
  iprop(∃ (fs : Buf (Elt F) (src.view.loc (c : Thread nD τ))) (fd : Buf (Elt F) (dst.view.loc (c : Thread nD τ))), ⌜src.view.read (Elt F) fs = X⌝
    ∗ Transfers.Flight EC (c : Thread nD τ) (.dma sm) 0 dst.view.dmaCredit
        iprop((dst.view.loc (c : Thread nD τ) ↦[dst.view.set]{fullShare} (dst.view.write (Elt F) fd (src.view.read (Elt F) fs) Finset.univ))
          ∗ (src.view.loc (c : Thread nD τ) ↦[src.view.set]{q} fs)))

/-- A local copy started. -/
theorem wp_start {c : Dev nD} {sm : DmaSem sig} {src : Memref sig .tc sp s e} {dst : Memref sig .tc sp' s e}
    {hsrc : src.view.WordExact} {hdst : dst.view.WordExact} {hsem : DmaTarget.Typed sp (.dma sm) (.here dst : DmaTarget nD τ sig .tc sp' s e)}
    {q : PosShare TreeShare} {X Y : s.Idx → Elt F e} {k : PUnit → BProg F α} {Q : α → sProp 𝕄} (hs : 0 < s.numel) :
    (iprop(owns (c : Thread nD τ) src q X ∗ owns (c : Thread nD τ) dst fullShare Y ∗ semVal ((c : Thread nD τ), SemLoc.dma sm) 0) : sProp 𝕄)
      ⊢ iprop((Moving c sm src dst q X -∗ Wp c (k ⟨⟩) Q)
        -∗ Wp c (Prog.lift (.enqueueDma src (.here dst) (.dma sm) hsrc hdst hsem) >>= k) Q) := by
  unfold owns
  iintro ⟨⟨%fs, %hfs, Hs⟩, ⟨%fd, -, Hd⟩, Hv⟩ Hk
  iapply (Transfers.wp_dmaLocal EC 𝒱₀ (c : Thread nD τ) none (src := src) (dst := dst) (sm := .dma sm) (via := .same) (fs := fs) (fd := fd) (q := q)
    0 dst.view.dmaCredit (View.amount_dma _ _) (View.dmaCredit_pos _ hs) subset_rfl) $$ [Hs Hd Hv]
  · isplitl [Hs]; · iexact Hs
    isplitl [Hd]; · iexact Hd
    iexact Hv
  iintro H
  iapply Hk
  unfold Moving
  iexists fs, fd
  isplitr; · ipureintro; exact hfs
  iexact H

/-- A local copy waited for. -/
theorem wp_finish {c : Dev nD} {sm : DmaSem sig} {src : Memref sig .tc sp s e} {dst : Memref sig .tc sp' s e}
    {hsrc : src.view.WordExact} {hdst : dst.view.WordExact}
    {q : PosShare TreeShare} {X : s.Idx → Elt F e} {k : PUnit → BProg F α} {Q : α → sProp 𝕄}
    {O : CellTallies nD τ sig ℕ} {W : Waits sig ℕ} :
    (iprop(Moving c sm src dst q X ∗ owes (c : Thread nD τ) O W ∗ MayWait (c : Thread nD τ) (.dma sm) 0 O) : sProp 𝕄)
      ⊢ iprop(((owns (c : Thread nD τ) dst fullShare X ∗ owns (c : Thread nD τ) src q X ∗ semVal ((c : Thread nD τ), SemLoc.dma sm) 0
            ∗ owes (c : Thread nD τ) O (insert (SemLoc.dma sm, 0) W)) -∗ Wp c (k ⟨⟩) Q)
        -∗ Wp c (Prog.lift (.waitDma2 sm src dst hsrc hdst) >>= k) Q) := by
  unfold Moving
  iintro ⟨⟨%fs, %fd, %hfs, HF⟩, HO, HM⟩ Hk
  iapply (Transfers.wp_waitLocalO EC 𝒱₀ (c : Thread nD τ) none (srcw := src) (dstw := dst) (hsrc := hsrc) (hdst := hdst) 0 rfl) $$ [HF HO HM]
  · isplitl [HF]; · iexact HF
    isplitl [HO] <;> iassumption
  iintro ⟨⟨Hd, Hs⟩, Hv, HO⟩
  iapply Hk
  isplitl [Hd]
  · unfold owns
    iexists _
    isplitr; swap; · iexact Hd
    ipureintro
    rw [View.read_write_univ, hfs]
  isplitl [Hs]
  · unfold owns
    iexists fs
    isplitr; · ipureintro; exact hfs
    iexact Hs
  isplitl [Hv] <;> iassumption

end Copies

end Cert.KernelIdeal.Pf

end
-- ==== Proof.Protocol.lean ====
/- The protocol of the copies between devices.

   A device has a barrier cell and, for each direction (`y`, `x`), three departure cells and four
   arrival cells. Block `j` leaves on departure cell `j % 3` in its round `j / 3` and arrives on the
   neighbour's arrival cell `j % 4` in its round `j / 4`.

   Arrival of block `j` hands the receiver its landing slot, holding the sender's block, and the
   sender's own landing slot for block `j + 2` (`land`): a device has emptied that slot when it sends
   block `j`. The barrier hands over the landing slots of blocks 0 and 1. A departure returns
   the share of the source it borrowed. -/
module

public import proofs.«01_k».proof.Proof.Local

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## Directions -/

inductive Dir | y | x
  deriving DecidableEq

/-- The neighbour along a direction. -/
def nbr : Dir → Dev nD → Dev nD
  | .y, c => yD c
  | .x, c => xD c

theorem nbr_nbr (d : Dir) (c : Dev nD) : nbr d (nbr d c) = c := by
  cases d <;> (revert c; decide)

def nbrEquiv (d : Dir) : Dev nD ≃ Dev nD := ⟨nbr d, nbr d, nbr_nbr d, nbr_nbr d⟩

/-- Departure and arrival semaphores, source and landing buffers of a direction. -/
abbrev sS : Dir → Fin 3 → DmaSem sig | .y => yS | .x => xS
abbrev sR : Dir → Fin 4 → DmaSem sig | .y => yR | .x => xR
abbrev srcM : Dir → Memref sig .tc .vmem (SN 3) .bf16 | .y => pbA | .x => fwd
abbrev dstM : Dir → Memref sig .tc .vmem (SN 4) .bf16 | .y => ohA | .x => ohB

theorem srcM_whole (d : Dir) : (srcM d).IsWhole := by cases d <;> exact Memref.isWhole_whole _
theorem dstM_whole (d : Dir) : (dstM d).IsWhole := by cases d <;> exact Memref.isWhole_whole _

/-! ## Cells -/

abbrev barCell (c : Dev nD) : GSem nD τ sig := ((c : Thread nD τ), .reg bar)
abbrev sndCell (d : Dir) (c : Dev nD) (s : Fin 3) : GSem nD τ sig := ((c : Thread nD τ), .dma (sS d s))
abbrev rcvCell (d : Dir) (c : Dev nD) (s : Fin 4) : GSem nD τ sig := ((c : Thread nD τ), .dma (sR d s))

/-- What a semaphore is for. -/
inductive Role
  | bar | snd (d : Dir) (s : Fin 3) | rcv (d : Dir) (s : Fin 4) | own

def role : SemLoc sig → Role
  | .reg _ => .bar
  | .dma i =>
    if i.val = 0 then .own
    else if h : i.val < 4 then .snd .y ⟨i.val - 1, by omega⟩
    else if h : i.val < 8 then .rcv .y ⟨i.val - 4, by omega⟩
    else if h : i.val < 11 then .snd .x ⟨i.val - 8, by omega⟩
    else if h : i.val < 15 then .rcv .x ⟨i.val - 11, by omega⟩
    else .own

theorem role_snd (d : Dir) (s : Fin 3) : role (.dma (sS d s)) = .snd d s := by
  cases d <;> fin_cases s <;> rfl
theorem role_rcv (d : Dir) (s : Fin 4) : role (.dma (sR d s)) = .rcv d s := by
  cases d <;> fin_cases s <;> rfl
theorem role_bar : role (.reg bar) = .bar := rfl

/-- The credit of a block's copy. -/
def N : ℕ := (slot ohA 0).view.dmaCredit
theorem N_pos : 0 < N := View.dmaCredit_pos _ (by decide)
theorem credit_dst (d : Dir) (s : Fin 4) : (slot (dstM d) s).view.dmaCredit = N := by cases d <;> rfl
theorem credit_src (d : Dir) (s : Fin 3) : (slot (srcM d) s).view.dmaCredit = N := by cases d <;> rfl

attribute [irreducible] N

/-! ## Contents -/

/-- Block `j` of the partial sums; narrowed; of the residual. -/
def PB (c : Dev nD) (j : Fin 8) : S256x4096.Idx → Elt F .f32 := (rowP c j).view.read (Elt F) (m ((c : Thread nD τ).loc main_arg0))
def NB (c : Dev nD) (j : Fin 8) : S256x4096.Idx → Elt F .bf16 := sq (narrow (un (PB m c j)))
def RB (c : Dev nD) (j : Fin 8) : S256x4096.Idx → Elt F .f32 := (rowR c j).view.read (Elt F) (m ((c : Thread nD τ).loc main_arg1))
/-- The sum of block `j`; it narrowed. -/
def YS (c : Dev nD) (j : Fin 8) : S256x4096.Idx → Elt F .f32 := ySum (un (NB m c j)) (un (NB m (nbr .y c) j)) (un (RB m c j))
def YF (c : Dev nD) (j : Fin 8) : S256x4096.Idx → Elt F .bf16 := sq (yFwd (un (NB m c j)) (un (NB m (nbr .y c) j)) (un (RB m c j)))
/-- The weights. -/
def gam (c : Dev nD) : S4096.Idx → Elt F .f32 :=
  (win0_0.blk (0 : Fin 1)).view.read (Elt F) (m ((c : Thread nD τ).loc main_arg2))
/-- Block `j` of the output in the own half, in the other half. -/
def OA (c : Dev nD) (j : Fin 8) : S256x4096.Idx → Elt F .f32 := normV (YS m c j) (gam m c)
def OB (c : Dev nD) (j : Fin 8) : S256x4096.Idx → Elt F .f32 := normB (un (YF m (nbr .x c) j)) (gam m c)

/-- The block device `c` sends. -/
def sent : Dir → Dev nD → Fin 8 → S256x4096.Idx → Elt F .bf16
  | .y => NB m
  | .x => YF m

/-! ## Payloads -/

/-- A memref owned at any contents. -/
def anyAt {sp : Space} {s : Shape} {e : EltTy} (c : Dev nD) (W : Memref sig .tc sp s e) (q : PosShare TreeShare) : sProp 𝕄 :=
  iprop(∃ X, owns (c : Thread nD τ) W q X)

/-- Leave to land block `j` on device `t`. -/
def land (d : Dir) (t : Dev nD) (j : ℕ) : sProp 𝕄 :=
  iprop(anyAt t (slot (dstM d) (md 4 j)) fullShare ∗ reached ER (rcvCell d t (md 4 j)) (j / 4))

/-- Leave to land block `j`, if there is such a block. -/
def landIf (d : Dir) (t : Dev nD) (j : ℕ) : sProp 𝕄 := if j < 8 then land d t j else iprop(emp)

def barPay (d : Dir) (c : Dev nD) : sProp 𝕄 := iprop(land d (nbr d c) 0 ∗ land d (nbr d c) 1)
def sndPay (d : Dir) (c : Dev nD) (s : Fin 3) : sProp 𝕄 := anyAt c (slot (srcM d) s) fullShare.right
def rcvPay (d : Dir) (c : Dev nD) (j : Fin 8) : sProp 𝕄 :=
  iprop(owns (c : Thread nD τ) (slot (dstM d) (md 4 j)) fullShare (sent m d (nbr d c) j) ∗ landIf d (nbr d c) (j.val + 2))

omit [FloatOps F] in
instance anyAt_storable {sp : Space} {s : Shape} {e : EltTy} (c : Dev nD) (W : Memref sig .tc sp s e) (q : PosShare TreeShare) :
    BI.Storable (upEmb : UEmb _ 𝕄) (anyAt (F := F) c W q) := by unfold anyAt; infer_instance
omit [FloatOps F] in
instance land_storable (d : Dir) (t : Dev nD) (j : ℕ) : BI.Storable (upEmb : UEmb _ 𝕄) (land (F := F) d t j) := by unfold land; infer_instance
omit [FloatOps F] in
instance landIf_storable (d : Dir) (t : Dev nD) (j : ℕ) : BI.Storable (upEmb : UEmb _ 𝕄) (landIf (F := F) d t j) := by
  unfold landIf; split <;> infer_instance
omit [FloatOps F] in
instance barPay_storable (d : Dir) (c : Dev nD) : BI.Storable (upEmb : UEmb _ 𝕄) (barPay (F := F) d c) := by unfold barPay; infer_instance
omit [FloatOps F] in
instance sndPay_storable (d : Dir) (c : Dev nD) (s : Fin 3) : BI.Storable (upEmb : UEmb _ 𝕄) (sndPay (F := F) d c s) := by unfold sndPay; infer_instance
instance rcvPay_storable (d : Dir) (c : Dev nD) (j : Fin 8) : BI.Storable (upEmb : UEmb _ 𝕄) (rcvPay m d c j) := by unfold rcvPay; infer_instance

/-! ## The schedule -/

/-- The duties of a semaphore's round: the barrier has one per direction, a copy's cell one in each
    round that a block uses. -/
def dutiesOf (k : Role) (r : ℕ) : Finset Bool :=
  match k with
  | .bar => if r = 0 then Finset.univ else ∅
  | .snd _ s => if s.val + 3 * r < 8 then {false} else ∅
  | .rcv _ s => if s.val + 4 * r < 8 then {false} else ∅
  | .own => ∅

def amountOf (k : Role) : ℕ :=
  match k with
  | .bar => 1
  | _ => N

/-- The direction of a barrier duty. -/
def dirOf : Bool → Dir | false => .y | true => .x
def dutyOf : Dir → Bool | .y => false | .x => true

def payloadOf (c : Dev nD) (k : Role) (r : ℕ) (b : Bool) : sProp 𝕄 :=
  match k with
  | .bar => barPay (dirOf b) c
  | .snd d s => sndPay d c s
  | .rcv d s => if h : s.val + 4 * r < 8 then rcvPay m d c ⟨s.val + 4 * r, h⟩ else iprop(emp)
  | .own => iprop(emp)

def sched : Rounds.Schedule (GSem nD τ sig) Bool 𝕄 where
  duties g r := if g.1.2 = .tc then dutiesOf (role g.2) r else ∅
  unitless _ := False
  amount g _ _ := amountOf (role g.2)
  payload g r b := payloadOf m g.1.1 (role g.2) r b
  amount_pos g _ _ _ := by
    unfold amountOf; split
    · exact Nat.one_pos
    · exact N_pos

instance sched_payload_storable (g : GSem nD τ sig) (r : ℕ) (b : Bool) : BI.Storable (upEmb : UEmb _ 𝕄) ((sched m).payload g r b) := by
  show BI.Storable upEmb (payloadOf m g.1.1 (role g.2) r b)
  unfold payloadOf
  split <;> try infer_instance
  split <;> infer_instance

section Tables
variable (d : Dir) (c : Dev nD) (j : Fin 8)

omit [FloatOps F] in
theorem blk3 : (md 3 j).val + 3 * (j.val / 3) = j.val := Nat.mod_add_div _ _
omit [FloatOps F] in
theorem blk4 : (md 4 j).val + 4 * (j.val / 4) = j.val := Nat.mod_add_div _ _

theorem duties_bar : (sched m).duties (barCell c) 0 = Finset.univ := rfl
theorem duties_snd : (sched m).duties (sndCell d c (md 3 j)) (j.val / 3) = {false} := by
  show (if (c : Thread nD τ).2 = .tc then dutiesOf (role (.dma (sS d (md 3 j)))) (j.val / 3) else ∅) = _
  rw [if_pos rfl, role_snd]
  show (if (md 3 j).val + 3 * (j.val / 3) < 8 then _ else _) = _
  rw [blk3, if_pos j.isLt]
theorem duties_rcv : (sched m).duties (rcvCell d c (md 4 j)) (j.val / 4) = {false} := by
  show (if (c : Thread nD τ).2 = .tc then dutiesOf (role (.dma (sR d (md 4 j)))) (j.val / 4) else ∅) = _
  rw [if_pos rfl, role_rcv]
  show (if (md 4 j).val + 4 * (j.val / 4) < 8 then _ else _) = _
  rw [blk4, if_pos j.isLt]

theorem amount_bar (b : Bool) : (sched m).amount (barCell c) 0 b = 1 := rfl
theorem amount_snd (s : Fin 3) (r : ℕ) (b : Bool) : (sched m).amount (sndCell d c s) r b = N := by
  show amountOf (role (.dma (sS d s))) = N
  exact (congrArg amountOf (role_snd d s)).trans rfl
theorem amount_rcv (s : Fin 4) (r : ℕ) (b : Bool) : (sched m).amount (rcvCell d c s) r b = N := by
  show amountOf (role (.dma (sR d s))) = N
  exact (congrArg amountOf (role_rcv d s)).trans rfl

theorem expect_bar : (sched m).expect (barCell c) 0 = 2 := by
  unfold Schedule.expect Schedule.amountOf; rw [duties_bar, Finset.sum_congr rfl fun b _ => amount_bar m c b]; decide
theorem expect_snd : (sched m).expect (sndCell d c (md 3 j)) (j.val / 3) = N := by
  unfold Schedule.expect Schedule.amountOf; rw [duties_snd, Finset.sum_singleton, amount_snd]
theorem expect_rcv : (sched m).expect (rcvCell d c (md 4 j)) (j.val / 4) = N := by
  unfold Schedule.expect Schedule.amountOf; rw [duties_rcv, Finset.sum_singleton, amount_rcv]

theorem payload_bar (e : Dir) : (sched m).payload (barCell c) 0 (dutyOf e) = barPay e c := by cases e <;> rfl
theorem payload_snd (s : Fin 3) (r : ℕ) (b : Bool) : (sched m).payload (sndCell d c s) r b = sndPay d c s := by
  show payloadOf m c (role (.dma (sS d s))) r b = _
  rw [role_snd]; rfl
theorem payload_rcv (b : Bool) : (sched m).payload (rcvCell d c (md 4 j)) (j.val / 4) b = rcvPay m d c j := by
  show payloadOf m c (role (.dma (sR d (md 4 j)))) (j.val / 4) b = _
  rw [role_rcv]
  show (if h : (md 4 j).val + 4 * (j.val / 4) < 8 then rcvPay m d c ⟨(md 4 j).val + 4 * (j.val / 4), h⟩ else iprop(emp)) = _
  rw [dif_pos (by rw [blk4]; exact j.isLt)]
  exact congrArg _ (Fin.ext (blk4 j))

theorem rest_bar : bigSep ((sched m).duties (barCell c) 0 \ ∅) (fun b => (sched m).payload (barCell c) 0 b) = iprop(barPay .y c ∗ barPay .x c) := by
  rw [Finset.sdiff_empty, duties_bar, bigSep_univ_eq_bigSepL [false, true] (by decide) (by decide)]; rfl
theorem rest_snd : bigSep ((sched m).duties (sndCell d c (md 3 j)) (j.val / 3) \ ∅) (fun b => (sched m).payload (sndCell d c (md 3 j)) (j.val / 3) b)
    = sndPay d c (md 3 j) := by
  rw [Finset.sdiff_empty, duties_snd, bigSep_singleton, payload_snd]
theorem rest_rcv : bigSep ((sched m).duties (rcvCell d c (md 4 j)) (j.val / 4) \ ∅) (fun b => (sched m).payload (rcvCell d c (md 4 j)) (j.val / 4) b)
    = rcvPay m d c j := by
  rw [Finset.sdiff_empty, duties_rcv, bigSep_singleton, payload_rcv]

/-- No duties remain after the last block of a cell. -/
theorem done_bar : ∀ r, 1 ≤ r → (sched m).duties (barCell c) r = ∅ :=
  fun r hr => by
    show (if r = 0 then _ else _) = _
    rw [if_neg (by omega)]
theorem done_snd (s : Fin 3) (R : ℕ) (h : 8 ≤ s.val + 3 * R) : ∀ r, R ≤ r → (sched m).duties (sndCell d c s) r = ∅ :=
  fun r hr => by
    show (if (c : Thread nD τ).2 = .tc then dutiesOf (role (.dma (sS d s))) r else ∅) = _
    rw [if_pos rfl, role_snd]
    exact if_neg (by omega)
theorem done_rcv (s : Fin 4) (R : ℕ) (h : 8 ≤ s.val + 4 * R) : ∀ r, R ≤ r → (sched m).duties (rcvCell d c s) r = ∅ :=
  fun r hr => by
    show (if (c : Thread nD τ).2 = .tc then dutiesOf (role (.dma (sR d s))) r else ∅) = _
    rw [if_pos rfl, role_rcv]
    exact if_neg (by omega)

end Tables

end Cert.KernelIdeal.Pf

end
-- ==== Proof.Bundles.lean ====
/- What a device holds between two steps: the invariants of all cells, what it still owes with the
   tokens it will pay by, its positions, and the rows it has still to read and to write. -/
module

public import proofs.«01_k».proof.Proof.Protocol

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## Blocks from `k` on -/

/-- The blocks from `k` on. -/
def rest (k : ℕ) : Finset (Fin 8) := Finset.univ.filter fun j => k ≤ j.val

theorem mem_rest {k : ℕ} {j : Fin 8} : j ∈ rest k ↔ k ≤ j.val := by simp [rest]
theorem rest_zero : rest 0 = Finset.univ := by decide
theorem rest_eight : rest 8 = ∅ := by decide
theorem not_mem_rest (j : Fin 8) : j ∉ rest (j.val + 1) := by rw [mem_rest]; omega
theorem rest_insert (j : Fin 8) : rest j.val = insert j (rest (j.val + 1)) := by
  ext i; rw [Finset.mem_insert, mem_rest, mem_rest, Fin.ext_iff]; omega

omit [FloatOps F] in
theorem peel (Φ : Fin 8 → sProp 𝕄) (j : Fin 8) : bigSep (rest j.val) Φ = iprop(Φ j ∗ bigSep (rest (j.val + 1)) Φ) := by
  rw [rest_insert, bigSep_insert (not_mem_rest j)]; rfl

/-! ## Levels -/

/-- Every wait has a level, and a device waits below all it owes: copies along y and along x of one
    block are at adjacent levels, later blocks above. -/
def lvR (k : Role) (i : ℕ) : ℕ :=
  match k with
  | .bar => 1
  | .rcv .y _ => 2 * i + 2
  | .rcv .x _ => 2 * i + 3
  | _ => 0
def lv (g : GSem nD τ sig) (i : ℕ) : ℕ := lvR (role g.2) i
/-- A wait's index is the block it is for. -/
def L (g : GSem nD τ sig) : Finset ℕ := if g.1.2 = .tc then Finset.range 8 else ∅

theorem L_of_ne (g : GSem nD τ sig) (h : g.1.2 ≠ .tc) : L g = ∅ := if_neg h
theorem L_tc (c : Dev nD) (sm : SemLoc sig) : L ((c : Thread nD τ), sm) = Finset.range 8 := if_pos rfl
theorem mem_L (c : Dev nD) (sm : SemLoc sig) {i : ℕ} (h : i < 8) : i ∈ L ((c : Thread nD τ), sm) := by
  rw [L_tc]; exact Finset.mem_range.mpr h

theorem lv_rcv_y (c : Dev nD) (s : Fin 4) (i : ℕ) : lv (rcvCell .y c s) i = 2 * i + 2 := by
  show lvR (role (.dma (sR .y s))) i = _
  rw [role_rcv]; rfl
theorem lv_rcv_x (c : Dev nD) (s : Fin 4) (i : ℕ) : lv (rcvCell .x c s) i = 2 * i + 3 := by
  show lvR (role (.dma (sR .x s))) i = _
  rw [role_rcv]; rfl
theorem lv_snd (d : Dir) (c : Dev nD) (s : Fin 3) (i : ℕ) : lv (sndCell d c s) i = 0 := by
  show lvR (role (.dma (sS d s))) i = _
  rw [role_snd]; rfl

/-! ## What a device owes -/

/-- The arrival credit of block `j` at the neighbour. -/
def owe1 (d : Dir) (c : Dev nD) (j : Fin 8) : CellTallies nD τ sig ℕ := tallyAt (rcvCell d (nbr d c) (md 4 j)) j.val N
/-- Those of the blocks from `k` on. -/
def oweD (d : Dir) (c : Dev nD) (k : ℕ) : CellTallies nD τ sig ℕ := ∑ j ∈ rest k, owe1 d c j
/-- In both directions. -/
def ow (c : Dev nD) (ky kx : ℕ) : CellTallies nD τ sig ℕ := oweD .y c ky + oweD .x c kx

theorem oweD_peel (d : Dir) (c : Dev nD) (j : Fin 8) : oweD d c j.val = oweD d c (j.val + 1) + owe1 d c j := by
  unfold oweD; rw [rest_insert, Finset.sum_insert (not_mem_rest j), add_comm]

theorem ow_y (c : Dev nD) (j : Fin 8) (kx : ℕ) : ow c j.val kx = ow c (j.val + 1) kx + owe1 .y c j := by
  unfold ow; rw [oweD_peel, add_right_comm]
theorem ow_x (c : Dev nD) (ky : ℕ) (j : Fin 8) : ow c ky j.val = ow c ky (j.val + 1) + owe1 .x c j := by
  unfold ow; rw [oweD_peel, add_assoc]

theorem oweD_pos {d : Dir} {c : Dev nD} {k : ℕ} {g : GSem nD τ sig} {i : ℕ} (h : 0 < oweD d c k g i) :
    ∃ j : Fin 8, k ≤ j.val ∧ g = rcvCell d (nbr d c) (md 4 j) ∧ i = j.val := by
  obtain ⟨j, hj, hp⟩ := Pipeline.sum_pos_exists h
  refine ⟨j, mem_rest.mp hj, ?_⟩
  unfold owe1 at hp
  rw [tallyAt_apply] at hp
  by_contra hn
  rw [if_neg hn] at hp
  exact Nat.lt_irrefl 0 hp

theorem ow_pos {c : Dev nD} {ky kx : ℕ} {g : GSem nD τ sig} {i : ℕ} (h : 0 < ow c ky kx g i) :
    ∃ (d : Dir) (j : Fin 8), (match d with | .y => ky | .x => kx) ≤ j.val ∧ g = rcvCell d (nbr d c) (md 4 j) ∧ i = j.val := by
  unfold ow at h
  rw [Pi.add_apply, Finsupp.add_apply] at h
  rcases Nat.eq_zero_or_pos (oweD .y c ky g i) with h0 | h0
  · rw [h0, Nat.zero_add] at h
    obtain ⟨j, hj⟩ := oweD_pos h
    exact ⟨.x, j, hj⟩
  · obtain ⟨j, hj⟩ := oweD_pos h0
    exact ⟨.y, j, hj⟩

/-- The level of every wait of a device. -/
def levs : sProp 𝕄 := levAts L lv
instance levs_persistent : BI.Persistent (levs (F := F)) := by unfold levs; infer_instance

omit [FloatOps F] in
/-- A wait at level `b` is below all that is owed. -/
theorem wait_below {c : Dev nD} {sm : SemLoc sig} {i ky kx : ℕ} {b : ℕ} (hi : i < 8) (hb : lv ((c : Thread nD τ), sm) i = b)
    (hy : ky < 8 → b < 2 * ky + 2) (hx : kx < 8 → b < 2 * kx + 3) :
    (levs : sProp 𝕄) ⊢ MayWait (c : Thread nD τ) sm i (ow c ky kx) :=
  Pipeline.mayWait_of_levAts (mem_L c sm hi) fun g ι hg => by
    obtain ⟨d, j, hj, rfl, rfl⟩ := ow_pos hg
    refine ⟨mem_L _ _ j.isLt, ?_⟩
    have := j.isLt
    cases d
    · rw [hb, lv_rcv_y]; have hj : ky ≤ j.val := hj
      have := hy (by omega); omega
    · rw [hb, lv_rcv_x]; have hj : kx ≤ j.val := hj
      have := hx (by omega); omega

/-! ## The cells and their invariants -/

/-- The protocol's cells of a device: the barrier, then the copies' semaphores by number. -/
def csem (i : Fin 15) : SemLoc sig := if i.val = 0 then .reg bar else .dma ⟨i.val, by have := i.isLt; show i.val < 21; omega⟩
abbrev kcell (ck : Dev nD × Fin 15) : GSem nD τ sig := ((ck.1 : Thread nD τ), csem ck.2)

def ixS : Dir → Fin 3 → Fin 15 | .y, s => ⟨1 + s.val, by omega⟩ | .x, s => ⟨8 + s.val, by omega⟩
def ixR : Dir → Fin 4 → Fin 15 | .y, s => ⟨4 + s.val, by omega⟩ | .x, s => ⟨11 + s.val, by omega⟩

theorem kcell_bar (c : Dev nD) : kcell (c, 0) = barCell c := rfl
theorem kcell_snd (d : Dir) (c : Dev nD) (s : Fin 3) : kcell (c, ixS d s) = sndCell d c s := by cases d <;> fin_cases s <;> rfl
theorem kcell_rcv (d : Dir) (c : Dev nD) (s : Fin 4) : kcell (c, ixR d s) = rcvCell d c s := by cases d <;> fin_cases s <;> rfl

variable (K : Dev nD × Fin 15 → ℕ)

/-- Every cell's invariant, and that every cell has reached round 0. -/
def records : sProp 𝕄 :=
  iprop((bigSep Finset.univ fun ck : Dev nD × Fin 15 => cellInv ER (sched m) (K ck) (kcell ck))
    ∗ bigSep Finset.univ fun ck : Dev nD × Fin 15 => reached ER (kcell ck) 0)

instance records_persistent : BI.Persistent (records m K) := by unfold records; infer_instance

/-- The invariants and the levels of the waits. -/
def ctx : sProp 𝕄 := iprop(records m K ∗ levs)
instance ctx_persistent : BI.Persistent (ctx m K) := by unfold ctx; infer_instance

theorem ctx_inv (ck : Dev nD × Fin 15) : ctx m K ⊢ (cellInv ER (sched m) (K ck) (kcell ck) : sProp 𝕄) := by
  have h : (bigSep Finset.univ fun ck : Dev nD × Fin 15 => (cellInv ER (sched m) (K ck) (kcell ck) : sProp 𝕄))
      ⊢ cellInv ER (sched m) (K ck) (kcell ck) := bigSep_elim (Finset.mem_univ ck)
  unfold ctx records
  iintro ⟨⟨H, -⟩, -⟩
  iapply h $$ H
theorem ctx_reached (ck : Dev nD × Fin 15) : ctx m K ⊢ (reached ER (kcell ck) 0 : sProp 𝕄) := by
  have h : (bigSep Finset.univ fun ck : Dev nD × Fin 15 => (reached ER (kcell ck) 0 : sProp 𝕄)) ⊢ reached ER (kcell ck) 0 :=
    bigSep_elim (Finset.mem_univ ck)
  unfold ctx records
  iintro ⟨⟨-, H⟩, -⟩
  iapply h $$ H
theorem ctx_wait {c : Dev nD} {sm : SemLoc sig} {i ky kx : ℕ} {b : ℕ} (hi : i < 8) (hb : lv ((c : Thread nD τ), sm) i = b)
    (hy : ky < 8 → b < 2 * ky + 2) (hx : kx < 8 → b < 2 * kx + 3) :
    ctx m K ⊢ (MayWait (c : Thread nD τ) sm i (ow c ky kx) : sProp 𝕄) := by
  have h := @wait_below F c sm i ky kx b hi hb hy hx
  unfold ctx
  iintro ⟨-, H⟩
  iapply h $$ H

theorem ctx_bar (c : Dev nD) : ctx m K ⊢ (cellInv ER (sched m) (K (c, 0)) (barCell c) : sProp 𝕄) := ctx_inv m K (c, 0)
theorem ctx_snd (d : Dir) (c : Dev nD) (s : Fin 3) : ctx m K ⊢ (cellInv ER (sched m) (K (c, ixS d s)) (sndCell d c s) : sProp 𝕄) :=
  (kcell_snd d c s) ▸ ctx_inv m K (c, ixS d s)
theorem ctx_rcv (d : Dir) (c : Dev nD) (s : Fin 4) : ctx m K ⊢ (cellInv ER (sched m) (K (c, ixR d s)) (rcvCell d c s) : sProp 𝕄) :=
  (kcell_rcv d c s) ▸ ctx_inv m K (c, ixR d s)

/-! ## Tokens, positions, credits -/

/-- The two tokens block `j`'s copy is paid by. -/
def tokS (d : Dir) (c : Dev nD) (j : Fin 8) : sProp 𝕄 :=
  iprop(dutyTok ER (sndCell d c (md 3 j)) (j.val / 3) false ∗ dutyTok ER (rcvCell d (nbr d c) (md 4 j)) (j.val / 4) false)

/-- What a device owes when it has sent the blocks below `ky` along y and below `kx` along x. -/
def ows (c : Dev nD) (ky kx : ℕ) : sProp 𝕄 :=
  iprop(∃ W, owes (c : Thread nD τ) (ow c ky kx) W ∗ bigSep (rest ky) (tokS .y c) ∗ bigSep (rest kx) (tokS .x c))

/-- The arrival credits of the blocks from `k` on. -/
def arrs (d : Dir) (c : Dev nD) (k : ℕ) : sProp 𝕄 :=
  bigSep (rest k) fun j => cred (tallyAt (rcvCell d c (md 4 j)) j.val N)

/-- The position at a departure cell, an arrival cell. -/
def posS (d : Dir) (c : Dev nD) (s : Fin 3) (R : ℕ) : sProp 𝕄 :=
  iprop(atPos ER (sndCell d c s) R ∅ 0 ∗ reached ER (sndCell d c s) R)
def posR (d : Dir) (c : Dev nD) (s : Fin 4) (R : ℕ) : sProp 𝕄 :=
  iprop(atPos ER (rcvCell d c s) R ∅ 0 ∗ reached ER (rcvCell d c s) R)

/-- Block `j` on its way: its departure is waited for, half of its slot is lent. -/
def flyS (d : Dir) (c : Dev nD) (j : Fin 8) (X : S256x4096.Idx → Elt F .bf16) : sProp 𝕄 :=
  iprop(cred (tallyAt (sndCell d c (md 3 j)) 0 N) ∗ atPos ER (sndCell d c (md 3 j)) (j.val / 3) ∅ 0
    ∗ owns (c : Thread nD τ) (slot (srcM d) (md 3 j)) fullShare.left X)

/-- A landing slot of one's own, given for block `j`. -/
theorem landIf_intro {d : Dir} {c : Dev nD} {j : ℕ} (h : j < 8) :
    iprop(anyAt c (slot (dstM d) (md 4 j)) fullShare ∗ posR d c (md 4 j) (j / 4)) ⊢ (iprop(landIf d c j ∗ posR d c (md 4 j) (j / 4)) : sProp 𝕄) := by
  unfold landIf land posR
  rw [if_pos h]
  iintro ⟨H, Hp, #Hr⟩
  isplitl [H]
  · isplitl [H]; · iexact H
    iexact Hr
  isplitl [Hp]; · iexact Hp
  iexact Hr

theorem landIf_none {d : Dir} {c : Dev nD} {j : ℕ} (h : 8 ≤ j) : (iprop(emp) : sProp 𝕄) ⊢ landIf (F := F) d c j := by
  unfold landIf; rw [if_neg (by omega)]

theorem land_landIf {d : Dir} {c : Dev nD} {j : ℕ} (h : j < 8) : (land d c j : sProp 𝕄) ⊢ landIf d c j := by
  unfold landIf; rw [if_pos h]

/-! ## Rows -/

/-- The blocks of the partial sums, of the residual, still to be read, at half a share. -/
def inP (c : Dev nD) (k : ℕ) : sProp 𝕄 := bigSep (rest k) fun j => owns (c : Thread nD τ) (rowP c j) fullShare.right (PB m c j)
def inR (c : Dev nD) (k : ℕ) : sProp 𝕄 := bigSep (rest k) fun j => owns (c : Thread nD τ) (rowR c j) fullShare.right (RB m c j)

/-- The output blocks still to be written, of the own and of the other half; those written. -/
def todoA (c : Dev nD) (k : ℕ) : sProp 𝕄 := bigSep (rest k) fun j => anyAt c (rowOA c j) fullShare
def todoB (c : Dev nD) (k : ℕ) : sProp 𝕄 := bigSep (rest k) fun j => anyAt c (rowOB c j) fullShare

def below (k : ℕ) : Finset (Fin 8) := Finset.univ.filter fun j => j.val < k
theorem below_zero : below 0 = ∅ := by decide
theorem below_eight : below 8 = Finset.univ := by decide
theorem below_succ (j : Fin 8) : below (j.val + 1) = insert j (below j.val) := by
  ext i; simp only [below, Finset.mem_insert, Finset.mem_filter, Finset.mem_univ, true_and, Fin.ext_iff]; omega
theorem not_mem_below (j : Fin 8) : j ∉ below j.val := by simp [below]
omit [FloatOps F] in
theorem push (Φ : Fin 8 → sProp 𝕄) (j : Fin 8) : iprop(Φ j ∗ bigSep (below j.val) Φ) = bigSep (below (j.val + 1)) Φ := by
  rw [below_succ, bigSep_insert (not_mem_below j)]; rfl

def doneA (c : Dev nD) (k : ℕ) : sProp 𝕄 := bigSep (below k) fun j => owns (c : Thread nD τ) (rowOA c j) fullShare (OA m c j)
def doneB (c : Dev nD) (k : ℕ) : sProp 𝕄 := bigSep (below k) fun j => owns (c : Thread nD τ) (rowOB c j) fullShare (OB m c j)

end Cert.KernelIdeal.Pf

end
-- ==== Proof.Remote.lean ====
/- The steps between devices: the hand-shake, a copy sent, its departure and its arrival waited for.
   Each is stated once, for a direction, a device and a block. -/
module

public import proofs.«01_k».proof.Proof.Bundles

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : Dev nD × Fin 15 → ℕ)

omit [FloatOps F] in
theorem cred_congr {g : GSem nD τ sig} {i a b : ℕ} (h : a = b) : (cred (tallyAt g i a) : sProp 𝕄) ⊢ cred (tallyAt g i b) := by
  subst h; exact BI.Entails.refl _

section Steps
variable {α : Type} {c : Dev nD}

/-- The copy of block `j`, sent: the neighbour's landing slot goes with the block, and with it one's own
    landing slot for block `j + 2`. -/
theorem wp_send (d : Dir) (j : Fin 8) {O₀ : CellTallies nD τ sig ℕ} (O : CellTallies nD τ sig ℕ) (hO : O₀ = O + owe1 d c j)
    {W : Waits sig ℕ} {k : PUnit → BProg F α} {Q : α → sProp 𝕄} :
    (iprop(ctx m K ∗ owns (c : Thread nD τ) (slot (srcM d) (md 3 j)) fullShare (sent m d c j) ∗ posS d c (md 3 j) (j.val / 3)
        ∗ landIf d (nbr d c) j.val ∗ landIf d c (j.val + 2) ∗ owes (c : Thread nD τ) O₀ W ∗ tokS d c j) : sProp 𝕄)
      ⊢ iprop(((flyS d c j (sent m d c j) ∗ owes (c : Thread nD τ) O W) -∗ Wp c (k ⟨⟩) Q)
        -∗ Wp c (send (srcM d) (srcM_whole d) (dstM d) (dstM_whole d) (nbr d c) (sS d (md 3 j)) (sR d (md 4 j)) j >>= k) Q) := by
  rw [show (landIf d (nbr d c) j.val : sProp 𝕄) = land d (nbr d c) j.val from if_pos j.isLt]
  unfold posS land tokS flyS anyAt
  iintro ⟨#HC, Hsrc, ⟨Hat, #HrS⟩, ⟨⟨%X, Hdst⟩, #HrV⟩, HF, HO, HtS, HtV⟩ Hk
  ihave Hsrc := (owns_halve _ _ _) $$ Hsrc
  icases Hsrc with ⟨HsL, HsR⟩
  ihave #HIs := (ctx_snd m K d c (md 3 j)) $$ HC
  ihave #HIr := (ctx_rcv m K d (nbr d c) (md 4 j)) $$ HC
  unfold owns
  icases HsR with ⟨%fs, %hfs, HsR⟩
  icases Hdst with ⟨%fd, %hfd, Hdst⟩
  iapply (Rounds.wp_send_pointsTo_with 𝒱₀ ER (sched m) (c : Thread nD τ) none (κ₁ := K (c, ixS d (md 3 j))) (κ₂ := K (nbr d c, ixR d (md 4 j)))
    (c' := (nbr d c : Thread nD τ)) (F := landIf d c (j.val + 2)) (fs := fs) (fd := fd) (q := fullShare.right)
    (r₁ := j.val / 3) (r₂ := j.val / 4) (d₁ := false) (d₂ := false)
    (by rw [duties_snd]; exact Finset.mem_singleton_self _) (by rw [duties_rcv]; exact Finset.mem_singleton_self _)
    j.val 0 N (by rw [View.amount_dma]; exact credit_dst d _) (amount_snd m d c _ _ _) (amount_rcv m d (nbr d c) _ _ _) O hO (W := W)
    (by
      rw [payload_snd]; unfold sndPay anyAt owns
      iintro H; iexists _, fs
      isplitr; · ipureintro; rfl
      iexact H)
    (by
      rw [payload_rcv]; unfold rcvPay owns; rw [nbr_nbr]
      iintro ⟨H, HF⟩
      isplitl [H]
      · iexists _
        isplitr; swap; · iexact H
        ipureintro
        rw [View.read_write_univ]; exact hfs
      iexact HF)) $$ [HsR Hdst HF HO HtS HtV]
  · isplitr; · iexact HIs
    isplitr; · iexact HIr
    isplitl [HsR]; · iexact HsR
    isplitl [Hdst HF]
    · isplitl [Hdst]; · iexact Hdst
      iexact HF
    isplitl [HO]; · iexact HO
    isplitl [HtS]; · iexact HtS
    isplitr; · iexact HrS
    isplitl [HtV]; · iexact HtV
    iexact HrV
  iintro ⟨Hc, HO⟩
  iapply Hk
  isplitr [HO]; swap; · iexact HO
  isplitl [Hc]; · iexact Hc
  isplitl [Hat]; · iexact Hat
  iexact HsL

/-- The departure of block `j` waited for: its slot is whole again. -/
theorem wp_waitSend (d : Dir) (j : Fin 8) {O : CellTallies nD τ sig ℕ} {W : Waits sig ℕ} {X : S256x4096.Idx → Elt F .bf16}
    {k : PUnit → BProg F α} {Q : α → sProp 𝕄} :
    (iprop(ctx m K ∗ flyS d c j X ∗ owes (c : Thread nD τ) O W ∗ MayWait (c : Thread nD τ) (.dma (sS d (md 3 j))) 0 O) : sProp 𝕄)
      ⊢ iprop(((anyAt c (slot (srcM d) (md 3 j)) fullShare ∗ posS d c (md 3 j) (j.val / 3 + 1)
            ∗ owes (c : Thread nD τ) O (insert (SemLoc.dma (sS d (md 3 j)), 0) W)) -∗ Wp c (k ⟨⟩) Q)
        -∗ Wp c (waitSend (srcM d) (srcM_whole d) (dstM d) (dstM_whole d) (sS d (md 3 j)) j >>= k) Q) := by
  unfold flyS posS
  iintro ⟨#HC, ⟨Hc, Hat, HsL⟩, HO, HM⟩ Hk
  ihave #HIs := (ctx_snd m K d c (md 3 j)) $$ HC
  iapply (Rounds.wp_wait_rest_token 𝒱₀ ER (sched m) (c : Thread nD τ) none (κ := K (c, ixS d (md 3 j)))
      (wpE_waitDma2_eq 𝒱₀ (c : Thread nD τ) none Set.univ) (Set.mem_univ _) 0 (O := O) (W := W) (R := j.val / 3) (m := 0) (T := ∅)
      (by rw [Nat.zero_add, expect_snd]; exact credit_src d _)) $$ [Hc HO HM Hat]
  · isplitr; · iexact HIs
    isplitl [Hc]
    · iapply (cred_congr (credit_src d _).symm) $$ Hc
    isplitl [HO]; · iexact HO
    isplitl [HM]; · iexact HM
    iexact Hat
  iintro ⟨HO, Hat, Hr, Hpay⟩
  ihave Hp := (Entails.of_eq (rest_snd m d c j)) $$ Hpay
  unfold sndPay anyAt
  icases Hp with ⟨%Y, HsR⟩
  ihave Hs := (owns_unhalve _ _ _ _) $$ [HsL HsR]
  · isplitl [HsL]; · iexact HsL
    iexact HsR
  iapply Hk
  isplitl [Hs]; · iexists Y; iexact Hs
  isplitr [HO]; swap; · iexact HO
  isplitl [Hat]; · iexact Hat
  iexact Hr

/-- The arrival of block `j` waited for: the landing slot holds the neighbour's block, and the neighbour's
    landing slot for block `j + 2` comes with it. -/
theorem wp_waitRecv (d : Dir) (j : Fin 8) {O : CellTallies nD τ sig ℕ} {W : Waits sig ℕ}
    {k : PUnit → BProg F α} {Q : α → sProp 𝕄} :
    (iprop(ctx m K ∗ arrs d c j.val ∗ posR d c (md 4 j) (j.val / 4) ∗ owes (c : Thread nD τ) O W
        ∗ MayWait (c : Thread nD τ) (.dma (sR d (md 4 j))) j.val O) : sProp 𝕄)
      ⊢ iprop(((arrs d c (j.val + 1) ∗ posR d c (md 4 j) (j.val / 4 + 1)
            ∗ owns (c : Thread nD τ) (slot (dstM d) (md 4 j)) fullShare (sent m d (nbr d c) j) ∗ landIf d (nbr d c) (j.val + 2)
            ∗ owes (c : Thread nD τ) O (insert (SemLoc.dma (sR d (md 4 j)), j.val) W)) -∗ Wp c (k ⟨⟩) Q)
        -∗ Wp c (waitRecv (srcM d) (srcM_whole d) (dstM d) (dstM_whole d) (sR d (md 4 j)) j >>= k) Q) := by
  unfold arrs posR
  rw [peel _ j]
  iintro ⟨#HC, ⟨Hc, Hcs⟩, ⟨Hat, -⟩, HO, HM⟩ Hk
  ihave #HIr := (ctx_rcv m K d c (md 4 j)) $$ HC
  iapply (Rounds.wp_wait_rest_token 𝒱₀ ER (sched m) (c : Thread nD τ) none (κ := K (c, ixR d (md 4 j)))
      (wpE_waitDma2_eq 𝒱₀ (c : Thread nD τ) none Set.univ) (Set.mem_univ _) j.val (O := O) (W := W) (R := j.val / 4) (m := 0) (T := ∅)
      (by rw [Nat.zero_add, expect_rcv]; exact credit_dst d _)) $$ [Hc HO HM Hat]
  · isplitr; · iexact HIr
    isplitl [Hc]
    · iapply (cred_congr (credit_dst d _).symm) $$ Hc
    isplitl [HO]; · iexact HO
    isplitl [HM]; · iexact HM
    iexact Hat
  iintro ⟨HO, Hat, Hr, Hpay⟩
  ihave Hp := (Entails.of_eq (rest_rcv m d c j)) $$ Hpay
  unfold rcvPay
  icases Hp with ⟨Hd, HF⟩
  iapply Hk
  isplitl [Hcs]; · iexact Hcs
  isplitl [Hat Hr]
  · isplitl [Hat]; · iexact Hat
    iexact Hr
  isplitl [Hd]; · iexact Hd
  isplitl [HF]; · iexact HF
  iexact HO

/-- The signal to the neighbour's barrier, with the first two landing slots. -/
theorem wp_hello (d : Dir) {O₀ : CellTallies nD τ sig ℕ} (O : CellTallies nD τ sig ℕ) (hO : O₀ = O + tallyAt (barCell (nbr d c)) 0 1)
    {W : Waits sig ℕ} {k : PUnit → BProg F α} {Q : α → sProp 𝕄} :
    (iprop(ctx m K ∗ owes (c : Thread nD τ) O₀ W ∗ dutyTok ER (barCell (nbr d c)) 0 (dutyOf d) ∗ land d c 0 ∗ land d c 1) : sProp 𝕄)
      ⊢ iprop((owes (c : Thread nD τ) O W -∗ Wp c (k ⟨⟩) Q)
        -∗ Wp c (semSignalWord (nbr d c) bar 1#32 >>= k) Q) := by
  iintro ⟨#HC, HO, Ht, H0, H1⟩ Hk
  ihave #HI := (ctx_bar m K (nbr d c)) $$ HC
  ihave #Hr := (ctx_reached m K (nbr d c, 0)) $$ HC
  iapply (Rounds.wp_signal 𝒱₀ ER (sched m) (c : Thread nD τ) none (dst := (nbr d c : Thread nD τ)) (κ := K (nbr d c, 0))
      (d := dutyOf d) (r := 0) (by rw [duties_bar]; exact Finset.mem_univ _) ((amount_bar m (nbr d c) (dutyOf d)).trans (by decide)) 0 O hO (W := W))
    $$ [HO Ht H0 H1]
  · isplitr; · iexact HI
    isplitl [HO]; · iexact HO
    isplitl [Ht]; · iexact Ht
    isplitl [H0 H1]
    · rw [payload_bar]; unfold barPay; rw [nbr_nbr]
      isplitl [H0]; · iexact H0
      iexact H1
    iexact Hr
  iexact Hk

/-- Both neighbours' signals waited for: their first two landing slots. -/
theorem wp_greeted {O : CellTallies nD τ sig ℕ} {W : Waits sig ℕ} {k : PUnit → BProg F α} {Q : α → sProp 𝕄} :
    (iprop(ctx m K ∗ cred (tallyAt (barCell c) 0 2) ∗ atPos ER (barCell c) 0 ∅ 0 ∗ owes (c : Thread nD τ) O W
        ∗ MayWait (c : Thread nD τ) (.reg bar) 0 O) : sProp 𝕄)
      ⊢ iprop(((atPos ER (barCell c) 1 ∅ 0 ∗ (land .y (nbr .y c) 0 ∗ land .y (nbr .y c) 1) ∗ (land .x (nbr .x c) 0 ∗ land .x (nbr .x c) 1)
            ∗ owes (c : Thread nD τ) O (insert (SemLoc.reg bar, 0) W)) -∗ Wp c (k ⟨⟩) Q)
        -∗ Wp c (semWaitWord bar 2#32 >>= k) Q) := by
  iintro ⟨#HC, Hc, Hat, HO, HM⟩ Hk
  ihave #HI := (ctx_bar m K c) $$ HC
  iapply (Rounds.wp_wait_rest_token 𝒱₀ ER (sched m) (c : Thread nD τ) none (κ := K (c, 0))
      (wpE_semWait_eq 𝒱₀ (c : Thread nD τ) none Set.univ) (Set.mem_univ _) 0 (O := O) (W := W) (R := 0) (m := 0) (T := ∅)
      (by rw [expect_bar]; decide)) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq (rest_bar m c)) $$ Hpay
  unfold barPay
  icases Hp with ⟨Hy, Hx⟩
  iapply Hk
  isplitl [Hat]; · iexact Hat
  isplitl [Hy]; · iexact Hy
  isplitl [Hx]; · iexact Hx
  iexact HO

end Steps

end Cert.KernelIdeal.Pf

end
-- ==== Proof.Steps.lean ====
/- The phases of the loop, each as one step on what a device holds: loads and stores of blocks, the
   sums and the normalised blocks, and the copies between devices with all that is still owed. -/
module

public import proofs.«01_k».proof.Proof.Remote

@[expose] public section

set_option maxRecDepth 4000

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : Dev nD × Fin 15 → ℕ)

theorem blk_pos : 0 < S256x4096.numel := by decide

/-! ## The first residual block, addressed by its row -/

theorem row_congr {o o' : Fin 2 → ℕ} (h : o = o') (i : ∀ a, o a + S256x4096.size a ≤ S4096x4096.size a)
    (i' : ∀ a, o' a + S256x4096.size a ≤ S4096x4096.size a) :
    aR.slice (Rect.unit (s := S4096x4096) o S256x4096.size i) (fun _ => rfl) = aR.slice (Rect.unit (s := S4096x4096) o' S256x4096.size i') (fun _ => rfl) := by
  subst h; rfl

theorem off0 (c : Dev nD) : k0_off2 c = offA c 0 := by revert c; decide

theorem startRM_zero (c : Dev nD) : (startRM (rowR0 c) 0 : BProg F PUnit) = startR c 0 :=
  congrArg (fun r => (startRM r 0 : BProg F PUnit)) (row_congr (off0 c) _ _)

/-! ## Holdings of the local copies -/

/-- A load buffer that is free; holding block `j`; being filled with block `j`. -/
def idleP (c : Dev nD) (s : Fin 2) : sProp 𝕄 := iprop(semVal ((c : Thread nD τ), SemLoc.dma (lP s)) 0 ∗ anyAt c (slot pbF s) fullShare)
def heldP (c : Dev nD) (j : Fin 8) : sProp 𝕄 :=
  iprop(semVal ((c : Thread nD τ), SemLoc.dma (lP (md 2 j))) 0 ∗ owns (c : Thread nD τ) (slot pbF (md 2 j)) fullShare (PB m c j))
def flyP (c : Dev nD) (j : Fin 8) : sProp 𝕄 := Moving c (lP (md 2 j)) (rowP c j) (slot pbF (md 2 j)) fullShare.right (PB m c j)
def idleR (c : Dev nD) (s : Fin 2) : sProp 𝕄 := iprop(semVal ((c : Thread nD τ), SemLoc.dma (lR s)) 0 ∗ anyAt c (slot rdA s) fullShare)
def heldR (c : Dev nD) (j : Fin 8) : sProp 𝕄 :=
  iprop(semVal ((c : Thread nD τ), SemLoc.dma (lR (md 2 j))) 0 ∗ owns (c : Thread nD τ) (slot rdA (md 2 j)) fullShare (RB m c j))
def flyR (c : Dev nD) (j : Fin 8) : sProp 𝕄 := Moving c (lR (md 2 j)) (rowR c j) (slot rdA (md 2 j)) fullShare.right (RB m c j)

/-- An output buffer that is free; holding output block `j`; being stored. -/
def idleA (c : Dev nD) : sProp 𝕄 := iprop(semVal ((c : Thread nD τ), SemLoc.dma stA) 0 ∗ anyAt c ouA fullShare)
def fullA (c : Dev nD) (j : Fin 8) : sProp 𝕄 := iprop(semVal ((c : Thread nD τ), SemLoc.dma stA) 0 ∗ owns (c : Thread nD τ) ouA fullShare (OA m c j))
def flyA (c : Dev nD) (j : Fin 8) : sProp 𝕄 := Moving c stA ouA (rowOA c j) fullShare (OA m c j)
def idleB (c : Dev nD) : sProp 𝕄 := iprop(semVal ((c : Thread nD τ), SemLoc.dma stB) 0 ∗ anyAt c ouB fullShare)
def fullB (c : Dev nD) (j : Fin 8) : sProp 𝕄 := iprop(semVal ((c : Thread nD τ), SemLoc.dma stB) 0 ∗ owns (c : Thread nD τ) ouB fullShare (OB m c j))
def flyB (c : Dev nD) (j : Fin 8) : sProp 𝕄 := Moving c stB ouB (rowOB c j) fullShare (OB m c j)

section Steps
variable {α : Type} {c : Dev nD} {ky kx : ℕ}

/-- A wait on a semaphore at level 0, whatever is owed. -/
theorem wait_low {sm : SemLoc sig} (h : lv ((c : Thread nD τ), sm) 0 = 0) :
    ctx m K ⊢ (MayWait (c : Thread nD τ) sm 0 (ow c ky kx) : sProp 𝕄) :=
  ctx_wait m K (b := 0) (by decide) h (fun _ => Nat.succ_pos _) (fun _ => Nat.succ_pos _)

/-! ## Loads -/

theorem st_startP (j : Fin 8) {k : PUnit → BProg F α} {Q : α → sProp 𝕄} :
    (iprop(inP m c j.val ∗ idleP c (md 2 j)) : sProp 𝕄)
      ⊢ iprop(((inP m c (j.val + 1) ∗ flyP m c j) -∗ Wp c (k ⟨⟩) Q) -∗ Wp c (startP c j >>= k) Q) := by
  unfold inP idleP anyAt flyP
  rw [peel _ j]
  iintro ⟨⟨Hr, Hrs⟩, Hv, %X, Hd⟩ Hk
  iapply (wp_start blk_pos) $$ [Hr Hd Hv]
  · isplitl [Hr]; · iexact Hr
    isplitl [Hd]; · iexact Hd
    iexact Hv
  iintro H
  iapply Hk
  isplitl [Hrs]; · iexact Hrs
  iexact H

theorem st_waitP (j : Fin 8) {k : PUnit → BProg F α} {Q : α → sProp 𝕄} :
    (iprop(ctx m K ∗ flyP m c j ∗ ows c ky kx) : sProp 𝕄)
      ⊢ iprop(((heldP m c j ∗ ows c ky kx) -∗ Wp c (k ⟨⟩) Q) -∗ Wp c (waitP c j >>= k) Q) := by
  unfold flyP ows heldP
  iintro ⟨#HC, H, ⟨%W, HO, Hts⟩⟩ Hk
  iapply wp_finish $$ [H HO]
  · isplitl [H]; · iexact H
    isplitl [HO]; · iexact HO
    iapply (wait_low m K (by generalize md 2 j = s; fin_cases s <;> rfl)) $$ HC
  iintro ⟨Hd, -, Hv, HO⟩
  iapply Hk
  isplitl [Hd Hv]
  · isplitl [Hv]; · iexact Hv
    iexact Hd
  iexists _
  isplitl [HO]; · iexact HO
  iexact Hts

theorem st_startR (j : Fin 8) {k : PUnit → BProg F α} {Q : α → sProp 𝕄} :
    (iprop(inR m c j.val ∗ idleR c (md 2 j)) : sProp 𝕄)
      ⊢ iprop(((inR m c (j.val + 1) ∗ flyR m c j) -∗ Wp c (k ⟨⟩) Q) -∗ Wp c (startR c j >>= k) Q) := by
  unfold inR idleR anyAt flyR
  rw [peel _ j]
  iintro ⟨⟨Hr, Hrs⟩, Hv, %X, Hd⟩ Hk
  iapply (wp_start blk_pos) $$ [Hr Hd Hv]
  · isplitl [Hr]; · iexact Hr
    isplitl [Hd]; · iexact Hd
    iexact Hv
  iintro H
  iapply Hk
  isplitl [Hrs]; · iexact Hrs
  iexact H

theorem st_startR0 {k : PUnit → BProg F α} {Q : α → sProp 𝕄} :
    (iprop(inR m c 0 ∗ idleR c 0) : sProp 𝕄)
      ⊢ iprop(((inR m c 1 ∗ flyR m c 0) -∗ Wp c (k ⟨⟩) Q) -∗ Wp c (startRM (rowR0 c) 0 >>= k) Q) := by
  rw [startRM_zero]
  exact st_startR m 0

theorem st_waitR (j : Fin 8) {k : PUnit → BProg F α} {Q : α → sProp 𝕄} :
    (iprop(ctx m K ∗ flyR m c j ∗ ows c ky kx) : sProp 𝕄)
      ⊢ iprop(((heldR m c j ∗ ows c ky kx) -∗ Wp c (k ⟨⟩) Q) -∗ Wp c (waitR c j >>= k) Q) := by
  unfold flyR ows heldR
  iintro ⟨#HC, H, ⟨%W, HO, Hts⟩⟩ Hk
  iapply wp_finish $$ [H HO]
  · isplitl [H]; · iexact H
    isplitl [HO]; · iexact HO
    iapply (wait_low m K (by generalize md 2 j = s; fin_cases s <;> rfl)) $$ HC
  iintro ⟨Hd, -, Hv, HO⟩
  iapply Hk
  isplitl [Hd Hv]
  · isplitl [Hv]; · iexact Hv
    iexact Hd
  iexists _
  isplitl [HO]; · iexact HO
  iexact Hts

/-! ## Output blocks stored -/

theorem st_startOA (j : Fin 8) {k : PUnit → BProg F α} {Q : α → sProp 𝕄} :
    (iprop(fullA m c j ∗ todoA c j.val) : sProp 𝕄)
      ⊢ iprop(((todoA c (j.val + 1) ∗ flyA m c j) -∗ Wp c (k ⟨⟩) Q) -∗ Wp c (startOA c j >>= k) Q) := by
  unfold fullA todoA flyA
  rw [peel _ j]
  unfold anyAt
  iintro ⟨⟨Hv, Hs⟩, ⟨⟨%X, Hd⟩, Hrs⟩⟩ Hk
  iapply (wp_start blk_pos) $$ [Hs Hd Hv]
  · isplitl [Hs]; · iexact Hs
    isplitl [Hd]; · iexact Hd
    iexact Hv
  iintro H
  iapply Hk
  isplitl [Hrs]; · iexact Hrs
  iexact H

theorem st_waitOA (j : Fin 8) {k : PUnit → BProg F α} {Q : α → sProp 𝕄} :
    (iprop(ctx m K ∗ flyA m c j ∗ doneA m c j.val ∗ ows c ky kx) : sProp 𝕄)
      ⊢ iprop(((idleA c ∗ doneA m c (j.val + 1) ∗ ows c ky kx) -∗ Wp c (k ⟨⟩) Q) -∗ Wp c (waitOA c j >>= k) Q) := by
  unfold flyA ows idleA anyAt doneA
  rw [← push _ j]
  iintro ⟨#HC, H, Hds, ⟨%W, HO, Hts⟩⟩ Hk
  iapply wp_finish $$ [H HO]
  · isplitl [H]; · iexact H
    isplitl [HO]; · iexact HO
    iapply (wait_low m K rfl) $$ HC
  iintro ⟨Hd, Hs, Hv, HO⟩
  iapply Hk
  isplitl [Hs Hv]
  · isplitl [Hv]; · iexact Hv
    iexists _; iexact Hs
  isplitl [Hd Hds]
  · isplitl [Hd]; · iexact Hd
    iexact Hds
  iexists _
  isplitl [HO]; · iexact HO
  iexact Hts

theorem st_startOB (j : Fin 8) {k : PUnit → BProg F α} {Q : α → sProp 𝕄} :
    (iprop(fullB m c j ∗ todoB c j.val) : sProp 𝕄)
      ⊢ iprop(((todoB c (j.val + 1) ∗ flyB m c j) -∗ Wp c (k ⟨⟩) Q) -∗ Wp c (startOB c j >>= k) Q) := by
  unfold fullB todoB flyB
  rw [peel _ j]
  unfold anyAt
  iintro ⟨⟨Hv, Hs⟩, ⟨⟨%X, Hd⟩, Hrs⟩⟩ Hk
  iapply (wp_start blk_pos) $$ [Hs Hd Hv]
  · isplitl [Hs]; · iexact Hs
    isplitl [Hd]; · iexact Hd
    iexact Hv
  iintro H
  iapply Hk
  isplitl [Hrs]; · iexact Hrs
  iexact H

theorem st_waitOB (j : Fin 8) {k : PUnit → BProg F α} {Q : α → sProp 𝕄} :
    (iprop(ctx m K ∗ flyB m c j ∗ doneB m c j.val ∗ ows c ky kx) : sProp 𝕄)
      ⊢ iprop(((idleB c ∗ doneB m c (j.val + 1) ∗ ows c ky kx) -∗ Wp c (k ⟨⟩) Q) -∗ Wp c (waitOB c j >>= k) Q) := by
  unfold flyB ows idleB anyAt doneB
  rw [← push _ j]
  iintro ⟨#HC, H, Hds, ⟨%W, HO, Hts⟩⟩ Hk
  iapply wp_finish $$ [H HO]
  · isplitl [H]; · iexact H
    isplitl [HO]; · iexact HO
    iapply (wait_low m K rfl) $$ HC
  iintro ⟨Hd, Hs, Hv, HO⟩
  iapply Hk
  isplitl [Hs Hv]
  · isplitl [Hv]; · iexact Hv
    iexists _; iexact Hs
  isplitl [Hd Hds]
  · isplitl [Hd]; · iexact Hd
    iexact Hds
  iexists _
  isplitl [HO]; · iexact HO
  iexact Hts

/-! ## Blocks computed -/

theorem st_cast (j : Fin 8) {k : PUnit → BProg F α} {Q : α → sProp 𝕄} :
    (iprop(heldP m c j ∗ anyAt c (slot pbA (md 3 j)) fullShare) : sProp 𝕄)
      ⊢ iprop(((idleP c (md 2 j) ∗ owns (c : Thread nD τ) (slot pbA (md 3 j)) fullShare (NB m c j)) -∗ Wp c (k ⟨⟩) Q) -∗ Wp c (cast j >>= k) Q) := by
  unfold heldP idleP anyAt cast
  simp only [bind_assoc]
  iintro ⟨⟨Hv, Hp⟩, %X, Hb⟩ Hk
  iapply (wp_loadS pbF _) $$ Hp
  iintro Hp
  iapply (wp_loadS pbA _) $$ Hb
  iintro Hb
  iapply (wp_storeS pbA _ _) $$ Hb
  iintro Hb
  iapply Hk
  isplitl [Hv Hp]
  · isplitl [Hv]; · iexact Hv
    iexists _; iexact Hp
  iexact Hb

theorem st_sumA (j : Fin 8) {k : FVec F S256x4096 .f32 → BProg F α} {Q : α → sProp 𝕄} :
    (iprop(flyS .y c j (NB m c j) ∗ owns (c : Thread nD τ) (slot ohA (md 4 j)) fullShare (NB m (nbr .y c) j) ∗ heldR m c j
        ∗ anyAt c (slot fwd (md 3 j)) fullShare) : sProp 𝕄)
      ⊢ iprop(((flyS .y c j (NB m c j) ∗ anyAt c (slot ohA (md 4 j)) fullShare ∗ idleR c (md 2 j)
            ∗ owns (c : Thread nD τ) (slot fwd (md 3 j)) fullShare (YF m c j)) -∗ Wp c (k (YS m c j)) Q)
        -∗ Wp c (sumA j >>= k) Q) := by
  unfold heldR idleR anyAt flyS sumA
  simp only [bind_assoc, pure_bind]
  iintro ⟨⟨Hc, Hat, Hp⟩, Hq, ⟨Hv, Hr⟩, %X, Hf⟩ Hk
  iapply (wp_loadS pbA _) $$ Hp
  iintro Hp
  iapply (wp_loadS ohA _) $$ Hq
  iintro Hq
  iapply (wp_loadS rdA _) $$ Hr
  iintro Hr
  iapply (wp_loadS fwd _) $$ Hf
  iintro Hf
  iapply (wp_storeS fwd _ _) $$ Hf
  iintro Hf
  iapply Hk
  isplitl [Hc Hat Hp]
  · isplitl [Hc]; · iexact Hc
    isplitl [Hat]; · iexact Hat
    iexact Hp
  isplitl [Hq]; · iexists _; iexact Hq
  isplitl [Hv Hr]
  · isplitl [Hv]; · iexact Hv
    iexists _; iexact Hr
  iexact Hf

/-- The weights' buffer. -/
def wts (c : Dev nD) (G : Memref sig .tc .vmem S4096 .f32) : sProp 𝕄 := owns (c : Thread nD τ) G fullShare (gam m c)

theorem st_outA (G : Memref sig .tc .vmem S4096 .f32) (j : Fin 8) {k : PUnit → BProg F α} {Q : α → sProp 𝕄} :
    (iprop(wts m c G ∗ idleA c) : sProp 𝕄)
      ⊢ iprop(((wts m c G ∗ fullA m c j) -∗ Wp c (k ⟨⟩) Q) -∗ Wp c (outA G (YS m c j) >>= k) Q) := by
  unfold wts idleA fullA anyAt outA
  simp only [bind_assoc]
  iintro ⟨Hg, Hv, %X, Ho⟩ Hk
  iapply (wp_loadG G) $$ Hg
  iintro Hg
  iapply (wp_loadO ouA) $$ Ho
  iintro Ho
  iapply (wp_storeO ouA) $$ Ho
  iintro Ho
  iapply Hk
  isplitl [Hg]; · iexact Hg
  isplitl [Hv]; · iexact Hv
  iexact Ho

theorem st_outB (G : Memref sig .tc .vmem S4096 .f32) (j : Fin 8) {k : PUnit → BProg F α} {Q : α → sProp 𝕄} :
    (iprop(owns (c : Thread nD τ) (slot ohB (md 4 j)) fullShare (YF m (nbr .x c) j) ∗ wts m c G ∗ idleB c) : sProp 𝕄)
      ⊢ iprop(((anyAt c (slot ohB (md 4 j)) fullShare ∗ wts m c G ∗ fullB m c j) -∗ Wp c (k ⟨⟩) Q) -∗ Wp c (outB G j >>= k) Q) := by
  unfold wts idleB fullB anyAt outB
  simp only [bind_assoc]
  iintro ⟨Hb, Hg, Hv, %X, Ho⟩ Hk
  iapply (wp_loadS ohB _) $$ Hb
  iintro Hb
  iapply (wp_loadG G) $$ Hg
  iintro Hg
  iapply (wp_loadO ouB) $$ Ho
  iintro Ho
  iapply (wp_storeO ouB) $$ Ho
  iintro Ho
  iapply Hk
  isplitl [Hb]; · iexists _; iexact Hb
  isplitl [Hg]; · iexact Hg
  isplitl [Hv]; · iexact Hv
  iexact Ho

/-! ## Copies between devices -/

theorem st_sendY (j : Fin 8) {k : PUnit → BProg F α} {Q : α → sProp 𝕄} :
    (iprop(ctx m K ∗ owns (c : Thread nD τ) (slot pbA (md 3 j)) fullShare (NB m c j) ∗ posS .y c (md 3 j) (j.val / 3)
        ∗ landIf .y (nbr .y c) j.val ∗ landIf .y c (j.val + 2) ∗ ows c j.val kx) : sProp 𝕄)
      ⊢ iprop(((flyS .y c j (NB m c j) ∗ ows c (j.val + 1) kx) -∗ Wp c (k ⟨⟩) Q) -∗ Wp c (sendY (yD c) j >>= k) Q) := by
  unfold ows
  rw [peel _ j]
  iintro ⟨#HC, Hs, Hp, Hl, Hl', ⟨%W, HO, ⟨Ht, Hty⟩, Htx⟩⟩ Hk
  iapply (wp_send m K .y j (ow c (j.val + 1) kx) (ow_y c j kx)) $$ [Hs Hp Hl Hl' HO Ht]
  · isplitr; · iexact HC
    isplitl [Hs]; · iexact Hs
    isplitl [Hp]; · iexact Hp
    isplitl [Hl]; · iexact Hl
    isplitl [Hl']; · iexact Hl'
    isplitl [HO]; · iexact HO
    iexact Ht
  iintro ⟨Hf, HO⟩
  iapply Hk
  isplitl [Hf]; · iexact Hf
  iexists _
  isplitl [HO]; · iexact HO
  isplitl [Hty]; · iexact Hty
  iexact Htx

theorem st_sendX (j : Fin 8) {k : PUnit → BProg F α} {Q : α → sProp 𝕄} :
    (iprop(ctx m K ∗ owns (c : Thread nD τ) (slot fwd (md 3 j)) fullShare (YF m c j) ∗ posS .x c (md 3 j) (j.val / 3)
        ∗ landIf .x (nbr .x c) j.val ∗ landIf .x c (j.val + 2) ∗ ows c ky j.val) : sProp 𝕄)
      ⊢ iprop(((flyS .x c j (YF m c j) ∗ ows c ky (j.val + 1)) -∗ Wp c (k ⟨⟩) Q) -∗ Wp c (sendX (xD c) j >>= k) Q) := by
  unfold ows
  rw [peel (tokS .x c) j]
  iintro ⟨#HC, Hs, Hp, Hl, Hl', ⟨%W, HO, Hty, Ht, Htx⟩⟩ Hk
  iapply (wp_send m K .x j (ow c ky (j.val + 1)) (ow_x c ky j)) $$ [Hs Hp Hl Hl' HO Ht]
  · isplitr; · iexact HC
    isplitl [Hs]; · iexact Hs
    isplitl [Hp]; · iexact Hp
    isplitl [Hl]; · iexact Hl
    isplitl [Hl']; · iexact Hl'
    isplitl [HO]; · iexact HO
    iexact Ht
  iintro ⟨Hf, HO⟩
  iapply Hk
  isplitl [Hf]; · iexact Hf
  iexists _
  isplitl [HO]; · iexact HO
  isplitl [Hty]; · iexact Hty
  iexact Htx

theorem st_waitSend (d : Dir) (j : Fin 8) {X : S256x4096.Idx → Elt F .bf16} {k : PUnit → BProg F α} {Q : α → sProp 𝕄} :
    (iprop(ctx m K ∗ flyS d c j X ∗ ows c ky kx) : sProp 𝕄)
      ⊢ iprop(((anyAt c (slot (srcM d) (md 3 j)) fullShare ∗ posS d c (md 3 j) (j.val / 3 + 1) ∗ ows c ky kx) -∗ Wp c (k ⟨⟩) Q)
        -∗ Wp c (waitSend (srcM d) (srcM_whole d) (dstM d) (dstM_whole d) (sS d (md 3 j)) j >>= k) Q) := by
  unfold ows
  iintro ⟨#HC, Hf, ⟨%W, HO, Hts⟩⟩ Hk
  iapply (wp_waitSend m K d j) $$ [Hf HO]
  · isplitr; · iexact HC
    isplitl [Hf]; · iexact Hf
    isplitl [HO]; · iexact HO
    iapply (wait_low m K (lv_snd d c _ 0)) $$ HC
  iintro ⟨Hs, Hp, HO⟩
  iapply Hk
  isplitl [Hs]; · iexact Hs
  isplitl [Hp]; · iexact Hp
  iexists _
  isplitl [HO]; · iexact HO
  iexact Hts

theorem st_waitYS (j : Fin 8) {X : S256x4096.Idx → Elt F .bf16} {k : PUnit → BProg F α} {Q : α → sProp 𝕄} :
    (iprop(ctx m K ∗ flyS .y c j X ∗ ows c ky kx) : sProp 𝕄)
      ⊢ iprop(((anyAt c (slot pbA (md 3 j)) fullShare ∗ posS .y c (md 3 j) (j.val / 3 + 1) ∗ ows c ky kx) -∗ Wp c (k ⟨⟩) Q)
        -∗ Wp c (waitYS j >>= k) Q) := st_waitSend m K .y j

theorem st_waitXS (j : Fin 8) {X : S256x4096.Idx → Elt F .bf16} {k : PUnit → BProg F α} {Q : α → sProp 𝕄} :
    (iprop(ctx m K ∗ flyS .x c j X ∗ ows c ky kx) : sProp 𝕄)
      ⊢ iprop(((anyAt c (slot fwd (md 3 j)) fullShare ∗ posS .x c (md 3 j) (j.val / 3 + 1) ∗ ows c ky kx) -∗ Wp c (k ⟨⟩) Q)
        -∗ Wp c (waitXS j >>= k) Q) := st_waitSend m K .x j

theorem st_waitRecv (d : Dir) (j : Fin 8) (hM : ctx m K ⊢ (MayWait (c : Thread nD τ) (.dma (sR d (md 4 j))) j.val (ow c ky kx) : sProp 𝕄))
    {k : PUnit → BProg F α} {Q : α → sProp 𝕄} :
    (iprop(ctx m K ∗ arrs d c j.val ∗ posR d c (md 4 j) (j.val / 4) ∗ ows c ky kx) : sProp 𝕄)
      ⊢ iprop(((arrs d c (j.val + 1) ∗ posR d c (md 4 j) (j.val / 4 + 1)
            ∗ owns (c : Thread nD τ) (slot (dstM d) (md 4 j)) fullShare (sent m d (nbr d c) j) ∗ landIf d (nbr d c) (j.val + 2)
            ∗ ows c ky kx) -∗ Wp c (k ⟨⟩) Q)
        -∗ Wp c (waitRecv (srcM d) (srcM_whole d) (dstM d) (dstM_whole d) (sR d (md 4 j)) j >>= k) Q) := by
  unfold ows
  iintro ⟨#HC, Ha, Hp, ⟨%W, HO, Hts⟩⟩ Hk
  iapply (wp_waitRecv m K d j) $$ [Ha Hp HO]
  · isplitr; · iexact HC
    isplitl [Ha]; · iexact Ha
    isplitl [Hp]; · iexact Hp
    isplitl [HO]; · iexact HO
    iapply hM $$ HC
  iintro ⟨Ha, Hp, Hd, Hl, HO⟩
  iapply Hk
  isplitl [Ha]; · iexact Ha
  isplitl [Hp]; · iexact Hp
  isplitl [Hd]; · iexact Hd
  isplitl [Hl]; · iexact Hl
  iexists _
  isplitl [HO]; · iexact HO
  iexact Hts

theorem st_waitYR (j : Fin 8) (hy : j.val < ky) (hx : j.val ≤ kx) {k : PUnit → BProg F α} {Q : α → sProp 𝕄} :
    (iprop(ctx m K ∗ arrs .y c j.val ∗ posR .y c (md 4 j) (j.val / 4) ∗ ows c ky kx) : sProp 𝕄)
      ⊢ iprop(((arrs .y c (j.val + 1) ∗ posR .y c (md 4 j) (j.val / 4 + 1)
            ∗ owns (c : Thread nD τ) (slot ohA (md 4 j)) fullShare (NB m (nbr .y c) j) ∗ landIf .y (nbr .y c) (j.val + 2)
            ∗ ows c ky kx) -∗ Wp c (k ⟨⟩) Q)
        -∗ Wp c (waitYR j >>= k) Q) :=
  st_waitRecv m K .y j (ctx_wait m K j.isLt (lv_rcv_y c _ _) (fun _ => by omega) (fun _ => by omega))

theorem st_waitXR (j : Fin 8) (hy : ky < 8 → j.val + 1 < ky) (hx : j.val < kx) {k : PUnit → BProg F α} {Q : α → sProp 𝕄} :
    (iprop(ctx m K ∗ arrs .x c j.val ∗ posR .x c (md 4 j) (j.val / 4) ∗ ows c ky kx) : sProp 𝕄)
      ⊢ iprop(((arrs .x c (j.val + 1) ∗ posR .x c (md 4 j) (j.val / 4 + 1)
            ∗ owns (c : Thread nD τ) (slot ohB (md 4 j)) fullShare (YF m (nbr .x c) j) ∗ landIf .x (nbr .x c) (j.val + 2)
            ∗ ows c ky kx) -∗ Wp c (k ⟨⟩) Q)
        -∗ Wp c (waitXR j >>= k) Q) :=
  st_waitRecv m K .x j (ctx_wait m K j.isLt (lv_rcv_x c _ _) (fun h => by have := hy h; omega) (fun _ => by omega))

/-! ## The hand-shake -/

/-- What a device owes at the start: the two signals besides. -/
def O₀ (c : Dev nD) : CellTallies nD τ sig ℕ := (ow c 0 0 + tallyAt (barCell (nbr .x c)) 0 1) + tallyAt (barCell (nbr .y c)) 0 1

/-- Before the hand-shake: what is owed, the tokens, the barrier's credit and position. -/
def fresh (c : Dev nD) : sProp 𝕄 :=
  iprop((∃ W, owes (c : Thread nD τ) (O₀ c) W) ∗ (bigSep (rest 0) (tokS .y c) ∗ bigSep (rest 0) (tokS .x c))
    ∗ (dutyTok ER (barCell (nbr .y c)) 0 (dutyOf .y) ∗ dutyTok ER (barCell (nbr .x c)) 0 (dutyOf .x))
    ∗ cred (tallyAt (barCell c) 0 2) ∗ atPos ER (barCell c) 0 ∅ 0)

theorem st_shake {k : PUnit → BProg F α} {Q : α → sProp 𝕄} :
    (iprop(ctx m K ∗ fresh c ∗ (land .y c 0 ∗ land .y c 1) ∗ (land .x c 0 ∗ land .x c 1)) : sProp 𝕄)
      ⊢ iprop(((atPos ER (barCell c) 1 ∅ 0 ∗ (landIf .y (nbr .y c) 0 ∗ landIf .y (nbr .y c) 1) ∗ (landIf .x (nbr .x c) 0 ∗ landIf .x (nbr .x c) 1)
            ∗ ows c 0 0) -∗ Wp c (k ⟨⟩) Q)
        -∗ Wp c (semSignalWord (yD c) bar 1#32 >>= fun _ => semSignalWord (xD c) bar 1#32 >>= fun _ => semWaitWord bar 2#32 >>= k) Q) := by
  unfold fresh
  iintro ⟨#HC, ⟨⟨%W, HO⟩, ⟨Hty, Htx⟩, ⟨Hby, Hbx⟩, Hc, Hat⟩, ⟨Hy0, Hy1⟩, ⟨Hx0, Hx1⟩⟩ Hk
  iapply (wp_hello m K .y (ow c 0 0 + tallyAt (barCell (nbr .x c)) 0 1) rfl) $$ [HO Hby Hy0 Hy1]
  · isplitr; · iexact HC
    isplitl [HO]; · iexact HO
    isplitl [Hby]; · iexact Hby
    isplitl [Hy0]; · iexact Hy0
    iexact Hy1
  iintro HO
  iapply (wp_hello m K .x (ow c 0 0) rfl) $$ [HO Hbx Hx0 Hx1]
  · isplitr; · iexact HC
    isplitl [HO]; · iexact HO
    isplitl [Hbx]; · iexact Hbx
    isplitl [Hx0]; · iexact Hx0
    iexact Hx1
  iintro HO
  iapply (wp_greeted m K) $$ [Hc Hat HO]
  · isplitr; · iexact HC
    isplitl [Hc]; · iexact Hc
    isplitl [Hat]; · iexact Hat
    isplitl [HO]; · iexact HO
    iapply (ctx_wait m K (b := 1) (by decide) rfl (fun _ => by decide) (fun _ => by decide)) $$ HC
  iintro ⟨Hat, ⟨Hy0, Hy1⟩, ⟨Hx0, Hx1⟩, HO⟩
  iapply Hk
  isplitl [Hat]; · iexact Hat
  isplitl [Hy0 Hy1]
  · isplitl [Hy0]
    · iapply (land_landIf (by decide)) $$ Hy0
    iapply (land_landIf (by decide)) $$ Hy1
  isplitl [Hx0 Hx1]
  · isplitl [Hx0]
    · iapply (land_landIf (by decide)) $$ Hx0
    iapply (land_landIf (by decide)) $$ Hx1
  unfold ows
  iexists _
  isplitl [HO]; · iexact HO
  isplitl [Hty]; · iexact Hty
  iexact Htx

end Steps

end Cert.KernelIdeal.Pf

end
-- ==== Proof.Body.lean ====
/- The body run: the loop's phases, one after the other, from what a device starts with to what it
   ends with. -/
module

public import proofs.«01_k».proof.Proof.Steps

@[expose] public section

set_option maxRecDepth 4000

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : Dev nD × Fin 15 → ℕ) (c : Dev nD)

/-- A landing slot of one's own, given for one of the first blocks. -/
theorem land_intro {d : Dir} {c : Dev nD} {j : ℕ} :
    iprop(anyAt c (slot (dstM d) (md 4 j)) fullShare ∗ posR d c (md 4 j) (j / 4)) ⊢ (iprop(land d c j ∗ posR d c (md 4 j) (j / 4)) : sProp 𝕄) := by
  unfold land posR
  iintro ⟨H, Hp, #Hr⟩
  isplitl [H]
  · isplitl [H]; · iexact H
    iexact Hr
  isplitl [Hp]; · iexact Hp
  iexact Hr

/-- The slots of the buffers a direction uses, at any contents. -/
def slots (c : Dev nD) : sProp 𝕄 :=
  iprop((anyAt c (slot ohA 0) fullShare ∗ anyAt c (slot ohA 1) fullShare ∗ anyAt c (slot ohA 2) fullShare ∗ anyAt c (slot ohA 3) fullShare)
    ∗ (anyAt c (slot ohB 0) fullShare ∗ anyAt c (slot ohB 1) fullShare ∗ anyAt c (slot ohB 2) fullShare ∗ anyAt c (slot ohB 3) fullShare)
    ∗ (anyAt c (slot pbA 0) fullShare ∗ anyAt c (slot pbA 1) fullShare ∗ anyAt c (slot pbA 2) fullShare)
    ∗ (anyAt c (slot fwd 0) fullShare ∗ anyAt c (slot fwd 1) fullShare ∗ anyAt c (slot fwd 2) fullShare))

/-- The load buffers and the output buffers, free. -/
def idles (c : Dev nD) : sProp 𝕄 :=
  iprop((idleP c 0 ∗ idleP c 1) ∗ (idleR c 0 ∗ idleR c 1) ∗ idleA c ∗ idleB c)

/-- The positions at the copies' cells. -/
def poses (c : Dev nD) (r01 r2 R : ℕ) : sProp 𝕄 :=
  iprop((posR .y c 0 R ∗ posR .y c 1 R ∗ posR .y c 2 R ∗ posR .y c 3 R)
    ∗ (posR .x c 0 R ∗ posR .x c 1 R ∗ posR .x c 2 R ∗ posR .x c 3 R)
    ∗ (posS .y c 0 r01 ∗ posS .y c 1 r01 ∗ posS .y c 2 r2)
    ∗ (posS .x c 0 r01 ∗ posS .x c 1 r01 ∗ posS .x c 2 r2))

/-- What the body starts with, besides the invariants and the weights. -/
def pre (c : Dev nD) : sProp 𝕄 :=
  iprop(fresh c ∗ (arrs .y c 0 ∗ arrs .x c 0) ∗ poses c 0 0 0 ∗ slots c ∗ idles c
    ∗ (inP m c 0 ∗ inR m c 0) ∗ (todoA c 0 ∗ todoB c 0) ∗ (doneA m c 0 ∗ doneB m c 0))

/-- What it ends with. -/
def post (c : Dev nD) : sProp 𝕄 :=
  iprop(ows c 8 8 ∗ atPos ER (barCell c) 1 ∅ 0 ∗ poses c 3 2 2 ∗ slots c ∗ idles c ∗ (doneA m c 8 ∗ doneB m c 8))

theorem wp_dev {α : Type} (k : Dev nD → BProg F α) (Q : α → sProp 𝕄) :
    Wp c (Prog.lift .deviceId >>= k) Q = Wp c (k c) Q := by
  simp only [Prog.lift, Prog.bind_op, Prog.bind_ret, wp_deviceId]

set_option maxHeartbeats 8000000 in
/-- The body, phase by phase. -/
theorem wp_loop (G : Memref sig .tc .vmem S4096 .f32) (Q : PUnit → sProp 𝕄) :
    (iprop(ctx m K ∗ wts m c G ∗ pre m c) : sProp 𝕄) ⊢ iprop((wts m c G -∗ post m c -∗ Wp c (pure ⟨⟩) Q) -∗ Wp c (loop G) Q) := by
  unfold loop pre poses slots idles
  iintro ⟨#HC, Hw, Hfresh, ⟨HaY, HaX⟩, ⟨⟨HpA0, HpA1, HpA2, HpA3⟩, ⟨HpB0, HpB1, HpB2, HpB3⟩, ⟨HsY0, HsY1, HsY2⟩, ⟨HsX0, HsX1, HsX2⟩⟩,
    ⟨⟨HoA0, HoA1, HoA2, HoA3⟩, ⟨HoB0, HoB1, HoB2, HoB3⟩, ⟨Hb0, Hb1, Hb2⟩, ⟨Hf0, Hf1, Hf2⟩⟩,
    ⟨⟨HP0, HP1⟩, ⟨HR0, HR1⟩, HuA, HuB⟩, ⟨HinP, HinR⟩, ⟨HtdA, HtdB⟩, ⟨HdnA, HdnB⟩⟩ Hk
  rw [wp_dev]
  ihave Hg := (land_intro (d := .y) (c := c) (j := 0)) $$ [HoA0 HpA0]
  · isplitl [HoA0]; · iexact HoA0
    iexact HpA0
  icases Hg with ⟨HgY0, HpA0⟩
  ihave Hg := (land_intro (d := .y) (c := c) (j := 1)) $$ [HoA1 HpA1]
  · isplitl [HoA1]; · iexact HoA1
    iexact HpA1
  icases Hg with ⟨HgY1, HpA1⟩
  ihave Hg := (land_intro (d := .x) (c := c) (j := 0)) $$ [HoB0 HpB0]
  · isplitl [HoB0]; · iexact HoB0
    iexact HpB0
  icases Hg with ⟨HgX0, HpB0⟩
  ihave Hg := (land_intro (d := .x) (c := c) (j := 1)) $$ [HoB1 HpB1]
  · isplitl [HoB1]; · iexact HoB1
    iexact HpB1
  icases Hg with ⟨HgX1, HpB1⟩
  iapply (st_shake m K) $$ [Hfresh HgY0 HgY1 HgX0 HgX1]
  · isplitr; · iexact HC
    isplitl [Hfresh]; · iexact Hfresh
    isplitl [HgY0 HgY1]
    · isplitl [HgY0]; · iexact HgY0
      iexact HgY1
    isplitl [HgX0]; · iexact HgX0
    iexact HgX1
  iintro ⟨Hbar, ⟨HlY0, HlY1⟩, ⟨HlX0, HlX1⟩, HO⟩
  iapply (st_startP m 0) $$ [HinP HP0]
  · isplitl [HinP]; · iexact HinP
    iexact HP0
  iintro ⟨HinP, HP0⟩
  iapply (st_startR0 m) $$ [HinR HR0]
  · isplitl [HinR]; · iexact HinR
    iexact HR0
  iintro ⟨HinR, HR0⟩
  iapply (st_startR m 1) $$ [HinR HR1]
  · isplitl [HinR]; · iexact HinR
    iexact HR1
  iintro ⟨HinR, HR1⟩
  iapply (st_startP m 1) $$ [HinP HP1]
  · isplitl [HinP]; · iexact HinP
    iexact HP1
  iintro ⟨HinP, HP1⟩
  iapply (st_waitP m K 0) $$ [HP0 HO]
  · isplitr; · iexact HC
    isplitl [HP0]; · iexact HP0
    iexact HO
  iintro ⟨HP0, HO⟩
  iapply (st_cast m 0) $$ [HP0 Hb0]
  · isplitl [HP0]; · iexact HP0
    iexact Hb0
  iintro ⟨HP0, Hb0⟩
  -- iteration 0
  ihave Hg := (landIf_intro (d := .y) (c := c) (j := 2) (by decide)) $$ [HoA2 HpA2]
  · isplitl [HoA2]; · iexact HoA2
    iexact HpA2
  icases Hg with ⟨Hg, HpA2⟩
  iapply (st_sendY m K 0) $$ [Hb0 HsY0 HlY0 Hg HO]
  · isplitr; · iexact HC
    isplitl [Hb0]; · iexact Hb0
    isplitl [HsY0]; · iexact HsY0
    isplitl [HlY0]; · iexact HlY0
    isplitl [Hg]; · iexact Hg
    iexact HO
  iintro ⟨Hb0, HO⟩
  iapply (st_startP m 2) $$ [HinP HP0]
  · isplitl [HinP]; · iexact HinP
    iexact HP0
  iintro ⟨HinP, HP0⟩
  iapply (st_waitP m K 1) $$ [HP1 HO]
  · isplitr; · iexact HC
    isplitl [HP1]; · iexact HP1
    iexact HO
  iintro ⟨HP1, HO⟩
  iapply (st_cast m 1) $$ [HP1 Hb1]
  · isplitl [HP1]; · iexact HP1
    iexact Hb1
  iintro ⟨HP1, Hb1⟩
  -- iteration 1
  ihave Hg := (landIf_intro (d := .y) (c := c) (j := 3) (by decide)) $$ [HoA3 HpA3]
  · isplitl [HoA3]; · iexact HoA3
    iexact HpA3
  icases Hg with ⟨Hg, HpA3⟩
  iapply (st_sendY m K 1) $$ [Hb1 HsY1 HlY1 Hg HO]
  · isplitr; · iexact HC
    isplitl [Hb1]; · iexact Hb1
    isplitl [HsY1]; · iexact HsY1
    isplitl [HlY1]; · iexact HlY1
    isplitl [Hg]; · iexact Hg
    iexact HO
  iintro ⟨Hb1, HO⟩
  iapply (st_startP m 3) $$ [HinP HP1]
  · isplitl [HinP]; · iexact HinP
    iexact HP1
  iintro ⟨HinP, HP1⟩
  iapply (st_waitYR (ky := 2) (kx := 0) m K 0 (by decide) (by decide)) $$ [HaY HpA0 HO]
  · isplitr; · iexact HC
    isplitl [HaY]; · iexact HaY
    isplitl [HpA0]; · iexact HpA0
    iexact HO
  iintro ⟨HaY, HpA0, HoA0, HlY2, HO⟩
  iapply (st_waitR m K 0) $$ [HR0 HO]
  · isplitr; · iexact HC
    isplitl [HR0]; · iexact HR0
    iexact HO
  iintro ⟨HR0, HO⟩
  iapply (st_sumA m 0) $$ [Hb0 HoA0 HR0 Hf0]
  · isplitl [Hb0]; · iexact Hb0
    isplitl [HoA0]; · iexact HoA0
    isplitl [HR0]; · iexact HR0
    iexact Hf0
  iintro ⟨Hb0, HoA0, HR0, Hf0⟩
  ihave Hg := (landIf_intro (d := .x) (c := c) (j := 2) (by decide)) $$ [HoB2 HpB2]
  · isplitl [HoB2]; · iexact HoB2
    iexact HpB2
  icases Hg with ⟨Hg, HpB2⟩
  iapply (st_sendX m K 0) $$ [Hf0 HsX0 HlX0 Hg HO]
  · isplitr; · iexact HC
    isplitl [Hf0]; · iexact Hf0
    isplitl [HsX0]; · iexact HsX0
    isplitl [HlX0]; · iexact HlX0
    isplitl [Hg]; · iexact Hg
    iexact HO
  iintro ⟨Hf0, HO⟩
  iapply (st_outA m G 0) $$ [Hw HuA]
  · isplitl [Hw]; · iexact Hw
    iexact HuA
  iintro ⟨Hw, HuA⟩
  iapply (st_startOA m 0) $$ [HuA HtdA]
  · isplitl [HuA]; · iexact HuA
    iexact HtdA
  iintro ⟨HtdA, HuA⟩
  iapply (st_startR m 2) $$ [HinR HR0]
  · isplitl [HinR]; · iexact HinR
    iexact HR0
  iintro ⟨HinR, HR0⟩
  iapply (st_waitP m K 2) $$ [HP0 HO]
  · isplitr; · iexact HC
    isplitl [HP0]; · iexact HP0
    iexact HO
  iintro ⟨HP0, HO⟩
  iapply (st_cast m 2) $$ [HP0 Hb2]
  · isplitl [HP0]; · iexact HP0
    iexact Hb2
  iintro ⟨HP0, Hb2⟩
  -- iteration 2
  ihave Hg := (landIf_intro (d := .y) (c := c) (j := 4) (by decide)) $$ [HoA0 HpA0]
  · isplitl [HoA0]; · iexact HoA0
    iexact HpA0
  icases Hg with ⟨Hg, HpA0⟩
  iapply (st_sendY m K 2) $$ [Hb2 HsY2 HlY2 Hg HO]
  · isplitr; · iexact HC
    isplitl [Hb2]; · iexact Hb2
    isplitl [HsY2]; · iexact HsY2
    isplitl [HlY2]; · iexact HlY2
    isplitl [Hg]; · iexact Hg
    iexact HO
  iintro ⟨Hb2, HO⟩
  iapply (st_startP m 4) $$ [HinP HP0]
  · isplitl [HinP]; · iexact HinP
    iexact HP0
  iintro ⟨HinP, HP0⟩
  iapply (st_waitYR (ky := 3) (kx := 1) m K 1 (by decide) (by decide)) $$ [HaY HpA1 HO]
  · isplitr; · iexact HC
    isplitl [HaY]; · iexact HaY
    isplitl [HpA1]; · iexact HpA1
    iexact HO
  iintro ⟨HaY, HpA1, HoA1, HlY3, HO⟩
  iapply (st_waitR m K 1) $$ [HR1 HO]
  · isplitr; · iexact HC
    isplitl [HR1]; · iexact HR1
    iexact HO
  iintro ⟨HR1, HO⟩
  iapply (st_sumA m 1) $$ [Hb1 HoA1 HR1 Hf1]
  · isplitl [Hb1]; · iexact Hb1
    isplitl [HoA1]; · iexact HoA1
    isplitl [HR1]; · iexact HR1
    iexact Hf1
  iintro ⟨Hb1, HoA1, HR1, Hf1⟩
  ihave Hg := (landIf_intro (d := .x) (c := c) (j := 3) (by decide)) $$ [HoB3 HpB3]
  · isplitl [HoB3]; · iexact HoB3
    iexact HpB3
  icases Hg with ⟨Hg, HpB3⟩
  iapply (st_sendX m K 1) $$ [Hf1 HsX1 HlX1 Hg HO]
  · isplitr; · iexact HC
    isplitl [Hf1]; · iexact Hf1
    isplitl [HsX1]; · iexact HsX1
    isplitl [HlX1]; · iexact HlX1
    isplitl [Hg]; · iexact Hg
    iexact HO
  iintro ⟨Hf1, HO⟩
  iapply (st_waitOA m K 0) $$ [HuA HdnA HO]
  · isplitr; · iexact HC
    isplitl [HuA]; · iexact HuA
    isplitl [HdnA]; · iexact HdnA
    iexact HO
  iintro ⟨HuA, HdnA, HO⟩
  iapply (st_outA m G 1) $$ [Hw HuA]
  · isplitl [Hw]; · iexact Hw
    iexact HuA
  iintro ⟨Hw, HuA⟩
  iapply (st_startOA m 1) $$ [HuA HtdA]
  · isplitl [HuA]; · iexact HuA
    iexact HtdA
  iintro ⟨HtdA, HuA⟩
  iapply (st_startR m 3) $$ [HinR HR1]
  · isplitl [HinR]; · iexact HinR
    iexact HR1
  iintro ⟨HinR, HR1⟩
  iapply (st_waitXR (ky := 3) (kx := 2) m K 0 (by decide) (by decide)) $$ [HaX HpB0 HO]
  · isplitr; · iexact HC
    isplitl [HaX]; · iexact HaX
    isplitl [HpB0]; · iexact HpB0
    iexact HO
  iintro ⟨HaX, HpB0, HoB0, HlX2, HO⟩
  iapply (st_outB m G 0) $$ [HoB0 Hw HuB]
  · isplitl [HoB0]; · iexact HoB0
    isplitl [Hw]; · iexact Hw
    iexact HuB
  iintro ⟨HoB0, Hw, HuB⟩
  iapply (st_startOB m 0) $$ [HuB HtdB]
  · isplitl [HuB]; · iexact HuB
    iexact HtdB
  iintro ⟨HtdB, HuB⟩
  iapply (st_waitYS m K 0) $$ [Hb0 HO]
  · isplitr; · iexact HC
    isplitl [Hb0]; · iexact Hb0
    iexact HO
  iintro ⟨Hb0, HsY0, HO⟩
  iapply (st_waitP m K 3) $$ [HP1 HO]
  · isplitr; · iexact HC
    isplitl [HP1]; · iexact HP1
    iexact HO
  iintro ⟨HP1, HO⟩
  iapply (st_cast m 3) $$ [HP1 Hb0]
  · isplitl [HP1]; · iexact HP1
    iexact Hb0
  iintro ⟨HP1, Hb0⟩
  -- iteration 3
  ihave Hg := (landIf_intro (d := .y) (c := c) (j := 5) (by decide)) $$ [HoA1 HpA1]
  · isplitl [HoA1]; · iexact HoA1
    iexact HpA1
  icases Hg with ⟨Hg, HpA1⟩
  iapply (st_sendY m K 3) $$ [Hb0 HsY0 HlY3 Hg HO]
  · isplitr; · iexact HC
    isplitl [Hb0]; · iexact Hb0
    isplitl [HsY0]; · iexact HsY0
    isplitl [HlY3]; · iexact HlY3
    isplitl [Hg]; · iexact Hg
    iexact HO
  iintro ⟨Hb0, HO⟩
  iapply (st_startP m 5) $$ [HinP HP1]
  · isplitl [HinP]; · iexact HinP
    iexact HP1
  iintro ⟨HinP, HP1⟩
  iapply (st_waitYR (ky := 4) (kx := 2) m K 2 (by decide) (by decide)) $$ [HaY HpA2 HO]
  · isplitr; · iexact HC
    isplitl [HaY]; · iexact HaY
    isplitl [HpA2]; · iexact HpA2
    iexact HO
  iintro ⟨HaY, HpA2, HoA2, HlY4, HO⟩
  iapply (st_waitR m K 2) $$ [HR0 HO]
  · isplitr; · iexact HC
    isplitl [HR0]; · iexact HR0
    iexact HO
  iintro ⟨HR0, HO⟩
  iapply (st_sumA m 2) $$ [Hb2 HoA2 HR0 Hf2]
  · isplitl [Hb2]; · iexact Hb2
    isplitl [HoA2]; · iexact HoA2
    isplitl [HR0]; · iexact HR0
    iexact Hf2
  iintro ⟨Hb2, HoA2, HR0, Hf2⟩
  ihave Hg := (landIf_intro (d := .x) (c := c) (j := 4) (by decide)) $$ [HoB0 HpB0]
  · isplitl [HoB0]; · iexact HoB0
    iexact HpB0
  icases Hg with ⟨Hg, HpB0⟩
  iapply (st_sendX m K 2) $$ [Hf2 HsX2 HlX2 Hg HO]
  · isplitr; · iexact HC
    isplitl [Hf2]; · iexact Hf2
    isplitl [HsX2]; · iexact HsX2
    isplitl [HlX2]; · iexact HlX2
    isplitl [Hg]; · iexact Hg
    iexact HO
  iintro ⟨Hf2, HO⟩
  iapply (st_waitOA m K 1) $$ [HuA HdnA HO]
  · isplitr; · iexact HC
    isplitl [HuA]; · iexact HuA
    isplitl [HdnA]; · iexact HdnA
    iexact HO
  iintro ⟨HuA, HdnA, HO⟩
  iapply (st_outA m G 2) $$ [Hw HuA]
  · isplitl [Hw]; · iexact Hw
    iexact HuA
  iintro ⟨Hw, HuA⟩
  iapply (st_startOA m 2) $$ [HuA HtdA]
  · isplitl [HuA]; · iexact HuA
    iexact HtdA
  iintro ⟨HtdA, HuA⟩
  iapply (st_startR m 4) $$ [HinR HR0]
  · isplitl [HinR]; · iexact HinR
    iexact HR0
  iintro ⟨HinR, HR0⟩
  iapply (st_waitXR (ky := 4) (kx := 3) m K 1 (by decide) (by decide)) $$ [HaX HpB1 HO]
  · isplitr; · iexact HC
    isplitl [HaX]; · iexact HaX
    isplitl [HpB1]; · iexact HpB1
    iexact HO
  iintro ⟨HaX, HpB1, HoB1, HlX3, HO⟩
  iapply (st_waitOB m K 0) $$ [HuB HdnB HO]
  · isplitr; · iexact HC
    isplitl [HuB]; · iexact HuB
    isplitl [HdnB]; · iexact HdnB
    iexact HO
  iintro ⟨HuB, HdnB, HO⟩
  iapply (st_outB m G 1) $$ [HoB1 Hw HuB]
  · isplitl [HoB1]; · iexact HoB1
    isplitl [Hw]; · iexact Hw
    iexact HuB
  iintro ⟨HoB1, Hw, HuB⟩
  iapply (st_startOB m 1) $$ [HuB HtdB]
  · isplitl [HuB]; · iexact HuB
    iexact HtdB
  iintro ⟨HtdB, HuB⟩
  iapply (st_waitYS m K 1) $$ [Hb1 HO]
  · isplitr; · iexact HC
    isplitl [Hb1]; · iexact Hb1
    iexact HO
  iintro ⟨Hb1, HsY1, HO⟩
  iapply (st_waitP m K 4) $$ [HP0 HO]
  · isplitr; · iexact HC
    isplitl [HP0]; · iexact HP0
    iexact HO
  iintro ⟨HP0, HO⟩
  iapply (st_cast m 4) $$ [HP0 Hb1]
  · isplitl [HP0]; · iexact HP0
    iexact Hb1
  iintro ⟨HP0, Hb1⟩
  -- iteration 4
  ihave Hg := (landIf_intro (d := .y) (c := c) (j := 6) (by decide)) $$ [HoA2 HpA2]
  · isplitl [HoA2]; · iexact HoA2
    iexact HpA2
  icases Hg with ⟨Hg, HpA2⟩
  iapply (st_sendY m K 4) $$ [Hb1 HsY1 HlY4 Hg HO]
  · isplitr; · iexact HC
    isplitl [Hb1]; · iexact Hb1
    isplitl [HsY1]; · iexact HsY1
    isplitl [HlY4]; · iexact HlY4
    isplitl [Hg]; · iexact Hg
    iexact HO
  iintro ⟨Hb1, HO⟩
  iapply (st_startP m 6) $$ [HinP HP0]
  · isplitl [HinP]; · iexact HinP
    iexact HP0
  iintro ⟨HinP, HP0⟩
  iapply (st_waitYR (ky := 5) (kx := 3) m K 3 (by decide) (by decide)) $$ [HaY HpA3 HO]
  · isplitr; · iexact HC
    isplitl [HaY]; · iexact HaY
    isplitl [HpA3]; · iexact HpA3
    iexact HO
  iintro ⟨HaY, HpA3, HoA3, HlY5, HO⟩
  iapply (st_waitXS m K 0) $$ [Hf0 HO]
  · isplitr; · iexact HC
    isplitl [Hf0]; · iexact Hf0
    iexact HO
  iintro ⟨Hf0, HsX0, HO⟩
  iapply (st_waitR m K 3) $$ [HR1 HO]
  · isplitr; · iexact HC
    isplitl [HR1]; · iexact HR1
    iexact HO
  iintro ⟨HR1, HO⟩
  iapply (st_sumA m 3) $$ [Hb0 HoA3 HR1 Hf0]
  · isplitl [Hb0]; · iexact Hb0
    isplitl [HoA3]; · iexact HoA3
    isplitl [HR1]; · iexact HR1
    iexact Hf0
  iintro ⟨Hb0, HoA3, HR1, Hf0⟩
  ihave Hg := (landIf_intro (d := .x) (c := c) (j := 5) (by decide)) $$ [HoB1 HpB1]
  · isplitl [HoB1]; · iexact HoB1
    iexact HpB1
  icases Hg with ⟨Hg, HpB1⟩
  iapply (st_sendX m K 3) $$ [Hf0 HsX0 HlX3 Hg HO]
  · isplitr; · iexact HC
    isplitl [Hf0]; · iexact Hf0
    isplitl [HsX0]; · iexact HsX0
    isplitl [HlX3]; · iexact HlX3
    isplitl [Hg]; · iexact Hg
    iexact HO
  iintro ⟨Hf0, HO⟩
  iapply (st_waitOA m K 2) $$ [HuA HdnA HO]
  · isplitr; · iexact HC
    isplitl [HuA]; · iexact HuA
    isplitl [HdnA]; · iexact HdnA
    iexact HO
  iintro ⟨HuA, HdnA, HO⟩
  iapply (st_outA m G 3) $$ [Hw HuA]
  · isplitl [Hw]; · iexact Hw
    iexact HuA
  iintro ⟨Hw, HuA⟩
  iapply (st_startOA m 3) $$ [HuA HtdA]
  · isplitl [HuA]; · iexact HuA
    iexact HtdA
  iintro ⟨HtdA, HuA⟩
  iapply (st_startR m 5) $$ [HinR HR1]
  · isplitl [HinR]; · iexact HinR
    iexact HR1
  iintro ⟨HinR, HR1⟩
  iapply (st_waitXR (ky := 5) (kx := 4) m K 2 (by decide) (by decide)) $$ [HaX HpB2 HO]
  · isplitr; · iexact HC
    isplitl [HaX]; · iexact HaX
    isplitl [HpB2]; · iexact HpB2
    iexact HO
  iintro ⟨HaX, HpB2, HoB2, HlX4, HO⟩
  iapply (st_waitOB m K 1) $$ [HuB HdnB HO]
  · isplitr; · iexact HC
    isplitl [HuB]; · iexact HuB
    isplitl [HdnB]; · iexact HdnB
    iexact HO
  iintro ⟨HuB, HdnB, HO⟩
  iapply (st_outB m G 2) $$ [HoB2 Hw HuB]
  · isplitl [HoB2]; · iexact HoB2
    isplitl [Hw]; · iexact Hw
    iexact HuB
  iintro ⟨HoB2, Hw, HuB⟩
  iapply (st_startOB m 2) $$ [HuB HtdB]
  · isplitl [HuB]; · iexact HuB
    iexact HtdB
  iintro ⟨HtdB, HuB⟩
  iapply (st_waitYS m K 2) $$ [Hb2 HO]
  · isplitr; · iexact HC
    isplitl [Hb2]; · iexact Hb2
    iexact HO
  iintro ⟨Hb2, HsY2, HO⟩
  iapply (st_waitP m K 5) $$ [HP1 HO]
  · isplitr; · iexact HC
    isplitl [HP1]; · iexact HP1
    iexact HO
  iintro ⟨HP1, HO⟩
  iapply (st_cast m 5) $$ [HP1 Hb2]
  · isplitl [HP1]; · iexact HP1
    iexact Hb2
  iintro ⟨HP1, Hb2⟩
  -- iteration 5
  ihave Hg := (landIf_intro (d := .y) (c := c) (j := 7) (by decide)) $$ [HoA3 HpA3]
  · isplitl [HoA3]; · iexact HoA3
    iexact HpA3
  icases Hg with ⟨Hg, HpA3⟩
  iapply (st_sendY m K 5) $$ [Hb2 HsY2 HlY5 Hg HO]
  · isplitr; · iexact HC
    isplitl [Hb2]; · iexact Hb2
    isplitl [HsY2]; · iexact HsY2
    isplitl [HlY5]; · iexact HlY5
    isplitl [Hg]; · iexact Hg
    iexact HO
  iintro ⟨Hb2, HO⟩
  iapply (st_startP m 7) $$ [HinP HP1]
  · isplitl [HinP]; · iexact HinP
    iexact HP1
  iintro ⟨HinP, HP1⟩
  iapply (st_waitYR (ky := 6) (kx := 4) m K 4 (by decide) (by decide)) $$ [HaY HpA0 HO]
  · isplitr; · iexact HC
    isplitl [HaY]; · iexact HaY
    isplitl [HpA0]; · iexact HpA0
    iexact HO
  iintro ⟨HaY, HpA0, HoA0, HlY6, HO⟩
  iapply (st_waitXS m K 1) $$ [Hf1 HO]
  · isplitr; · iexact HC
    isplitl [Hf1]; · iexact Hf1
    iexact HO
  iintro ⟨Hf1, HsX1, HO⟩
  iapply (st_waitR m K 4) $$ [HR0 HO]
  · isplitr; · iexact HC
    isplitl [HR0]; · iexact HR0
    iexact HO
  iintro ⟨HR0, HO⟩
  iapply (st_sumA m 4) $$ [Hb1 HoA0 HR0 Hf1]
  · isplitl [Hb1]; · iexact Hb1
    isplitl [HoA0]; · iexact HoA0
    isplitl [HR0]; · iexact HR0
    iexact Hf1
  iintro ⟨Hb1, HoA0, HR0, Hf1⟩
  ihave Hg := (landIf_intro (d := .x) (c := c) (j := 6) (by decide)) $$ [HoB2 HpB2]
  · isplitl [HoB2]; · iexact HoB2
    iexact HpB2
  icases Hg with ⟨Hg, HpB2⟩
  iapply (st_sendX m K 4) $$ [Hf1 HsX1 HlX4 Hg HO]
  · isplitr; · iexact HC
    isplitl [Hf1]; · iexact Hf1
    isplitl [HsX1]; · iexact HsX1
    isplitl [HlX4]; · iexact HlX4
    isplitl [Hg]; · iexact Hg
    iexact HO
  iintro ⟨Hf1, HO⟩
  iapply (st_waitOA m K 3) $$ [HuA HdnA HO]
  · isplitr; · iexact HC
    isplitl [HuA]; · iexact HuA
    isplitl [HdnA]; · iexact HdnA
    iexact HO
  iintro ⟨HuA, HdnA, HO⟩
  iapply (st_outA m G 4) $$ [Hw HuA]
  · isplitl [Hw]; · iexact Hw
    iexact HuA
  iintro ⟨Hw, HuA⟩
  iapply (st_startOA m 4) $$ [HuA HtdA]
  · isplitl [HuA]; · iexact HuA
    iexact HtdA
  iintro ⟨HtdA, HuA⟩
  iapply (st_startR m 6) $$ [HinR HR0]
  · isplitl [HinR]; · iexact HinR
    iexact HR0
  iintro ⟨HinR, HR0⟩
  iapply (st_waitXR (ky := 6) (kx := 5) m K 3 (by decide) (by decide)) $$ [HaX HpB3 HO]
  · isplitr; · iexact HC
    isplitl [HaX]; · iexact HaX
    isplitl [HpB3]; · iexact HpB3
    iexact HO
  iintro ⟨HaX, HpB3, HoB3, HlX5, HO⟩
  iapply (st_waitOB m K 2) $$ [HuB HdnB HO]
  · isplitr; · iexact HC
    isplitl [HuB]; · iexact HuB
    isplitl [HdnB]; · iexact HdnB
    iexact HO
  iintro ⟨HuB, HdnB, HO⟩
  iapply (st_outB m G 3) $$ [HoB3 Hw HuB]
  · isplitl [HoB3]; · iexact HoB3
    isplitl [Hw]; · iexact Hw
    iexact HuB
  iintro ⟨HoB3, Hw, HuB⟩
  iapply (st_startOB m 3) $$ [HuB HtdB]
  · isplitl [HuB]; · iexact HuB
    iexact HtdB
  iintro ⟨HtdB, HuB⟩
  iapply (st_waitYS m K 3) $$ [Hb0 HO]
  · isplitr; · iexact HC
    isplitl [Hb0]; · iexact Hb0
    iexact HO
  iintro ⟨Hb0, HsY0, HO⟩
  iapply (st_waitP m K 6) $$ [HP0 HO]
  · isplitr; · iexact HC
    isplitl [HP0]; · iexact HP0
    iexact HO
  iintro ⟨HP0, HO⟩
  iapply (st_cast m 6) $$ [HP0 Hb0]
  · isplitl [HP0]; · iexact HP0
    iexact Hb0
  iintro ⟨HP0, Hb0⟩
  -- iteration 6
  iapply (st_sendY m K 6) $$ [Hb0 HsY0 HlY6 HO]
  · isplitr; · iexact HC
    isplitl [Hb0]; · iexact Hb0
    isplitl [HsY0]; · iexact HsY0
    isplitl [HlY6]; · iexact HlY6
    isplitr; · iapply (landIf_none (by decide)); iempintro
    iexact HO
  iintro ⟨Hb0, HO⟩
  iapply (st_waitYR (ky := 7) (kx := 5) m K 5 (by decide) (by decide)) $$ [HaY HpA1 HO]
  · isplitr; · iexact HC
    isplitl [HaY]; · iexact HaY
    isplitl [HpA1]; · iexact HpA1
    iexact HO
  iintro ⟨HaY, HpA1, HoA1, HlY7, HO⟩
  iapply (st_waitXS m K 2) $$ [Hf2 HO]
  · isplitr; · iexact HC
    isplitl [Hf2]; · iexact Hf2
    iexact HO
  iintro ⟨Hf2, HsX2, HO⟩
  iapply (st_waitR m K 5) $$ [HR1 HO]
  · isplitr; · iexact HC
    isplitl [HR1]; · iexact HR1
    iexact HO
  iintro ⟨HR1, HO⟩
  iapply (st_sumA m 5) $$ [Hb2 HoA1 HR1 Hf2]
  · isplitl [Hb2]; · iexact Hb2
    isplitl [HoA1]; · iexact HoA1
    isplitl [HR1]; · iexact HR1
    iexact Hf2
  iintro ⟨Hb2, HoA1, HR1, Hf2⟩
  ihave Hg := (landIf_intro (d := .x) (c := c) (j := 7) (by decide)) $$ [HoB3 HpB3]
  · isplitl [HoB3]; · iexact HoB3
    iexact HpB3
  icases Hg with ⟨Hg, HpB3⟩
  iapply (st_sendX m K 5) $$ [Hf2 HsX2 HlX5 Hg HO]
  · isplitr; · iexact HC
    isplitl [Hf2]; · iexact Hf2
    isplitl [HsX2]; · iexact HsX2
    isplitl [HlX5]; · iexact HlX5
    isplitl [Hg]; · iexact Hg
    iexact HO
  iintro ⟨Hf2, HO⟩
  iapply (st_waitOA m K 4) $$ [HuA HdnA HO]
  · isplitr; · iexact HC
    isplitl [HuA]; · iexact HuA
    isplitl [HdnA]; · iexact HdnA
    iexact HO
  iintro ⟨HuA, HdnA, HO⟩
  iapply (st_outA m G 5) $$ [Hw HuA]
  · isplitl [Hw]; · iexact Hw
    iexact HuA
  iintro ⟨Hw, HuA⟩
  iapply (st_startOA m 5) $$ [HuA HtdA]
  · isplitl [HuA]; · iexact HuA
    iexact HtdA
  iintro ⟨HtdA, HuA⟩
  iapply (st_startR m 7) $$ [HinR HR1]
  · isplitl [HinR]; · iexact HinR
    iexact HR1
  iintro ⟨HinR, HR1⟩
  iapply (st_waitXR (ky := 7) (kx := 6) m K 4 (by decide) (by decide)) $$ [HaX HpB0 HO]
  · isplitr; · iexact HC
    isplitl [HaX]; · iexact HaX
    isplitl [HpB0]; · iexact HpB0
    iexact HO
  iintro ⟨HaX, HpB0, HoB0, HlX6, HO⟩
  iapply (st_waitOB m K 3) $$ [HuB HdnB HO]
  · isplitr; · iexact HC
    isplitl [HuB]; · iexact HuB
    isplitl [HdnB]; · iexact HdnB
    iexact HO
  iintro ⟨HuB, HdnB, HO⟩
  iapply (st_outB m G 4) $$ [HoB0 Hw HuB]
  · isplitl [HoB0]; · iexact HoB0
    isplitl [Hw]; · iexact Hw
    iexact HuB
  iintro ⟨HoB0, Hw, HuB⟩
  iapply (st_startOB m 4) $$ [HuB HtdB]
  · isplitl [HuB]; · iexact HuB
    iexact HtdB
  iintro ⟨HtdB, HuB⟩
  iapply (st_waitYS m K 4) $$ [Hb1 HO]
  · isplitr; · iexact HC
    isplitl [Hb1]; · iexact Hb1
    iexact HO
  iintro ⟨Hb1, HsY1, HO⟩
  iapply (st_waitP m K 7) $$ [HP1 HO]
  · isplitr; · iexact HC
    isplitl [HP1]; · iexact HP1
    iexact HO
  iintro ⟨HP1, HO⟩
  iapply (st_cast m 7) $$ [HP1 Hb1]
  · isplitl [HP1]; · iexact HP1
    iexact Hb1
  iintro ⟨HP1, Hb1⟩
  -- iteration 7
  iapply (st_sendY m K 7) $$ [Hb1 HsY1 HlY7 HO]
  · isplitr; · iexact HC
    isplitl [Hb1]; · iexact Hb1
    isplitl [HsY1]; · iexact HsY1
    isplitl [HlY7]; · iexact HlY7
    isplitr; · iapply (landIf_none (by decide)); iempintro
    iexact HO
  iintro ⟨Hb1, HO⟩
  iapply (st_waitYR (ky := 8) (kx := 6) m K 6 (by decide) (by decide)) $$ [HaY HpA2 HO]
  · isplitr; · iexact HC
    isplitl [HaY]; · iexact HaY
    isplitl [HpA2]; · iexact HpA2
    iexact HO
  iintro ⟨HaY, HpA2, HoA2, -, HO⟩
  iapply (st_waitXS m K 3) $$ [Hf0 HO]
  · isplitr; · iexact HC
    isplitl [Hf0]; · iexact Hf0
    iexact HO
  iintro ⟨Hf0, HsX0, HO⟩
  iapply (st_waitR m K 6) $$ [HR0 HO]
  · isplitr; · iexact HC
    isplitl [HR0]; · iexact HR0
    iexact HO
  iintro ⟨HR0, HO⟩
  iapply (st_sumA m 6) $$ [Hb0 HoA2 HR0 Hf0]
  · isplitl [Hb0]; · iexact Hb0
    isplitl [HoA2]; · iexact HoA2
    isplitl [HR0]; · iexact HR0
    iexact Hf0
  iintro ⟨Hb0, HoA2, HR0, Hf0⟩
  iapply (st_sendX m K 6) $$ [Hf0 HsX0 HlX6 HO]
  · isplitr; · iexact HC
    isplitl [Hf0]; · iexact Hf0
    isplitl [HsX0]; · iexact HsX0
    isplitl [HlX6]; · iexact HlX6
    isplitr; · iapply (landIf_none (by decide)); iempintro
    iexact HO
  iintro ⟨Hf0, HO⟩
  iapply (st_waitOA m K 5) $$ [HuA HdnA HO]
  · isplitr; · iexact HC
    isplitl [HuA]; · iexact HuA
    isplitl [HdnA]; · iexact HdnA
    iexact HO
  iintro ⟨HuA, HdnA, HO⟩
  iapply (st_outA m G 6) $$ [Hw HuA]
  · isplitl [Hw]; · iexact Hw
    iexact HuA
  iintro ⟨Hw, HuA⟩
  iapply (st_startOA m 6) $$ [HuA HtdA]
  · isplitl [HuA]; · iexact HuA
    iexact HtdA
  iintro ⟨HtdA, HuA⟩
  iapply (st_waitXR (ky := 8) (kx := 7) m K 5 (by decide) (by decide)) $$ [HaX HpB1 HO]
  · isplitr; · iexact HC
    isplitl [HaX]; · iexact HaX
    isplitl [HpB1]; · iexact HpB1
    iexact HO
  iintro ⟨HaX, HpB1, HoB1, HlX7, HO⟩
  iapply (st_waitOB m K 4) $$ [HuB HdnB HO]
  · isplitr; · iexact HC
    isplitl [HuB]; · iexact HuB
    isplitl [HdnB]; · iexact HdnB
    iexact HO
  iintro ⟨HuB, HdnB, HO⟩
  iapply (st_outB m G 5) $$ [HoB1 Hw HuB]
  · isplitl [HoB1]; · iexact HoB1
    isplitl [Hw]; · iexact Hw
    iexact HuB
  iintro ⟨HoB1, Hw, HuB⟩
  iapply (st_startOB m 5) $$ [HuB HtdB]
  · isplitl [HuB]; · iexact HuB
    iexact HtdB
  iintro ⟨HtdB, HuB⟩
  -- iteration 8
  iapply (st_waitYR (ky := 8) (kx := 7) m K 7 (by decide) (by decide)) $$ [HaY HpA3 HO]
  · isplitr; · iexact HC
    isplitl [HaY]; · iexact HaY
    isplitl [HpA3]; · iexact HpA3
    iexact HO
  iintro ⟨HaY, HpA3, HoA3, -, HO⟩
  iapply (st_waitXS m K 4) $$ [Hf1 HO]
  · isplitr; · iexact HC
    isplitl [Hf1]; · iexact Hf1
    iexact HO
  iintro ⟨Hf1, HsX1, HO⟩
  iapply (st_waitR m K 7) $$ [HR1 HO]
  · isplitr; · iexact HC
    isplitl [HR1]; · iexact HR1
    iexact HO
  iintro ⟨HR1, HO⟩
  iapply (st_sumA m 7) $$ [Hb1 HoA3 HR1 Hf1]
  · isplitl [Hb1]; · iexact Hb1
    isplitl [HoA3]; · iexact HoA3
    isplitl [HR1]; · iexact HR1
    iexact Hf1
  iintro ⟨Hb1, HoA3, HR1, Hf1⟩
  iapply (st_sendX m K 7) $$ [Hf1 HsX1 HlX7 HO]
  · isplitr; · iexact HC
    isplitl [Hf1]; · iexact Hf1
    isplitl [HsX1]; · iexact HsX1
    isplitl [HlX7]; · iexact HlX7
    isplitr; · iapply (landIf_none (by decide)); iempintro
    iexact HO
  iintro ⟨Hf1, HO⟩
  iapply (st_waitOA m K 6) $$ [HuA HdnA HO]
  · isplitr; · iexact HC
    isplitl [HuA]; · iexact HuA
    isplitl [HdnA]; · iexact HdnA
    iexact HO
  iintro ⟨HuA, HdnA, HO⟩
  iapply (st_outA m G 7) $$ [Hw HuA]
  · isplitl [Hw]; · iexact Hw
    iexact HuA
  iintro ⟨Hw, HuA⟩
  iapply (st_startOA m 7) $$ [HuA HtdA]
  · isplitl [HuA]; · iexact HuA
    iexact HtdA
  iintro ⟨HtdA, HuA⟩
  iapply (st_waitXR (ky := 8) (kx := 8) m K 6 (by decide) (by decide)) $$ [HaX HpB2 HO]
  · isplitr; · iexact HC
    isplitl [HaX]; · iexact HaX
    isplitl [HpB2]; · iexact HpB2
    iexact HO
  iintro ⟨HaX, HpB2, HoB2, -, HO⟩
  iapply (st_waitOB m K 5) $$ [HuB HdnB HO]
  · isplitr; · iexact HC
    isplitl [HuB]; · iexact HuB
    isplitl [HdnB]; · iexact HdnB
    iexact HO
  iintro ⟨HuB, HdnB, HO⟩
  iapply (st_outB m G 6) $$ [HoB2 Hw HuB]
  · isplitl [HoB2]; · iexact HoB2
    isplitl [Hw]; · iexact Hw
    iexact HuB
  iintro ⟨HoB2, Hw, HuB⟩
  iapply (st_startOB m 6) $$ [HuB HtdB]
  · isplitl [HuB]; · iexact HuB
    iexact HtdB
  iintro ⟨HtdB, HuB⟩
  -- iteration 9
  iapply (st_waitXR (ky := 8) (kx := 8) m K 7 (by decide) (by decide)) $$ [HaX HpB3 HO]
  · isplitr; · iexact HC
    isplitl [HaX]; · iexact HaX
    isplitl [HpB3]; · iexact HpB3
    iexact HO
  iintro ⟨HaX, HpB3, HoB3, -, HO⟩
  iapply (st_waitOB m K 6) $$ [HuB HdnB HO]
  · isplitr; · iexact HC
    isplitl [HuB]; · iexact HuB
    isplitl [HdnB]; · iexact HdnB
    iexact HO
  iintro ⟨HuB, HdnB, HO⟩
  iapply (st_outB m G 7) $$ [HoB3 Hw HuB]
  · isplitl [HoB3]; · iexact HoB3
    isplitl [Hw]; · iexact Hw
    iexact HuB
  iintro ⟨HoB3, Hw, HuB⟩
  iapply (st_startOB m 7) $$ [HuB HtdB]
  · isplitl [HuB]; · iexact HuB
    iexact HtdB
  iintro ⟨HtdB, HuB⟩
  -- the copies and stores still in flight
  iapply (st_waitYS m K 5) $$ [Hb2 HO]
  · isplitr; · iexact HC
    isplitl [Hb2]; · iexact Hb2
    iexact HO
  iintro ⟨Hb2, HsY2, HO⟩
  iapply (st_waitYS m K 6) $$ [Hb0 HO]
  · isplitr; · iexact HC
    isplitl [Hb0]; · iexact Hb0
    iexact HO
  iintro ⟨Hb0, HsY0, HO⟩
  iapply (st_waitYS m K 7) $$ [Hb1 HO]
  · isplitr; · iexact HC
    isplitl [Hb1]; · iexact Hb1
    iexact HO
  iintro ⟨Hb1, HsY1, HO⟩
  iapply (st_waitXS m K 5) $$ [Hf2 HO]
  · isplitr; · iexact HC
    isplitl [Hf2]; · iexact Hf2
    iexact HO
  iintro ⟨Hf2, HsX2, HO⟩
  iapply (st_waitXS m K 6) $$ [Hf0 HO]
  · isplitr; · iexact HC
    isplitl [Hf0]; · iexact Hf0
    iexact HO
  iintro ⟨Hf0, HsX0, HO⟩
  iapply (st_waitXS m K 7) $$ [Hf1 HO]
  · isplitr; · iexact HC
    isplitl [Hf1]; · iexact Hf1
    iexact HO
  iintro ⟨Hf1, HsX1, HO⟩
  iapply (st_waitOA m K 7) $$ [HuA HdnA HO]
  · isplitr; · iexact HC
    isplitl [HuA]; · iexact HuA
    isplitl [HdnA]; · iexact HdnA
    iexact HO
  iintro ⟨HuA, HdnA, HO⟩
  rw [← bind_pure (waitOB c 7)]
  iapply (st_waitOB m K 7) $$ [HuB HdnB HO]
  · isplitr; · iexact HC
    isplitl [HuB]; · iexact HuB
    isplitl [HdnB]; · iexact HdnB
    iexact HO
  iintro ⟨HuB, HdnB, HO⟩
  iapply Hk $$ Hw
  unfold post poses slots idles
  isplitl [HO]; · iexact HO
  isplitl [Hbar]; · iexact Hbar
  isplitl [HpA0 HpA1 HpA2 HpA3 HpB0 HpB1 HpB2 HpB3 HsY0 HsY1 HsY2 HsX0 HsX1 HsX2]
  · isplitl [HpA0 HpA1 HpA2 HpA3]
    · isplitl [HpA0]; · iexact HpA0
      isplitl [HpA1]; · iexact HpA1
      isplitl [HpA2]; · iexact HpA2
      iexact HpA3
    isplitl [HpB0 HpB1 HpB2 HpB3]
    · isplitl [HpB0]; · iexact HpB0
      isplitl [HpB1]; · iexact HpB1
      isplitl [HpB2]; · iexact HpB2
      iexact HpB3
    isplitl [HsY0 HsY1 HsY2]
    · isplitl [HsY0]; · iexact HsY0
      isplitl [HsY1]; · iexact HsY1
      iexact HsY2
    isplitl [HsX0]; · iexact HsX0
    isplitl [HsX1]; · iexact HsX1
    iexact HsX2
  isplitl [HoA0 HoA1 HoA2 HoA3 HoB0 HoB1 HoB2 HoB3 Hb0 Hb1 Hb2 Hf0 Hf1 Hf2]
  · isplitl [HoA0 HoA1 HoA2 HoA3]
    · isplitl [HoA0]; · iexact HoA0
      isplitl [HoA1]; · iexact HoA1
      isplitl [HoA2]; · iexact HoA2
      iexact HoA3
    isplitl [HoB0 HoB1 HoB2 HoB3]
    · isplitl [HoB0]; · iexact HoB0
      isplitl [HoB1]; · iexact HoB1
      isplitl [HoB2]; · iexact HoB2
      iexact HoB3
    isplitl [Hb0 Hb1 Hb2]
    · isplitl [Hb0]; · iexact Hb0
      isplitl [Hb1]; · iexact Hb1
      iexact Hb2
    isplitl [Hf0]; · iexact Hf0
    isplitl [Hf1]; · iexact Hf1
    iexact Hf2
  isplitl [HP0 HP1 HR0 HR1 HuA HuB]
  · isplitl [HP0 HP1]
    · isplitl [HP0]; · iexact HP0
      iexact HP1
    isplitl [HR0 HR1]
    · isplitl [HR0]; · iexact HR0
      iexact HR1
    isplitl [HuA]; · iexact HuA
    iexact HuB
  isplitl [HdnA]; · iexact HdnA
  iexact HdnB

end Cert.KernelIdeal.Pf

end
-- ==== Proof.Buffers.lean ====
/- The buffers a device is given whole, held block by block, and back.

   A buffer of slots splits into its slots and is joined from them. Of the two inputs a device keeps
   half a share whole and reads rows at the other half. The output is given out row by row; no join is
   needed, since the final memory is read row by row. -/
module

public import proofs.«01_k».proof.Proof.Body
public import Idealize.ShloMosaic.Lib.Ring

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (c : Dev nD)

omit [FloatOps F] in
theorem owns_intro {sp : Space} {s : Shape} {e : EltTy} (V : Memref sig .tc sp s e) (q : PosShare TreeShare) (f : Buf (Elt F) (V.view.loc (c : Thread nD τ))) :
    (V.view.loc (c : Thread nD τ) ↦[V.view.set]{q} f : sProp 𝕄) ⊢ owns (c : Thread nD τ) V q (V.view.read (Elt F) f) := by
  unfold owns
  iintro H
  iexists f
  isplitr; · ipureintro; rfl
  iexact H

omit [FloatOps F] in
theorem anyAt_intro {sp : Space} {s : Shape} {e : EltTy} (V : Memref sig .tc sp s e) (f : Buf (Elt F) (V.view.loc (c : Thread nD τ))) :
    (V.view.loc (c : Thread nD τ) ↦[V.view.set]{fullShare} f : sProp 𝕄) ⊢ anyAt c V fullShare := by
  refine (owns_intro c V fullShare f).trans ?_
  unfold anyAt; iintro H; iexists _; iexact H

/-! ## Slots -/

section Slots
variable {n : ℕ} {e : EltTy} (b : Ref sig .tc)

theorem sbox_disjoint (n : ℕ) (s t : Fin n) (h : s ≠ t) : Disjoint (sbox n s).set (sbox n t).set :=
  Ring.lead_disjoint (s := SN n) (0 : Fin 3) 1 (fun s : Fin n => ![s.val, 0, 0]) S1x256x4096.size slot_inb
    (fun s => (Nat.one_mul _).symm) rfl s t h

theorem sbox_cover (n : ℕ) : Finset.univ.biUnion (fun s => (sbox n s).set) = Finset.univ :=
  Ring.lead_cover (s := SN n) (0 : Fin 3) 1 (fun s : Fin n => ![s.val, 0, 0]) S1x256x4096.size slot_inb
    (fun s => (Nat.one_mul _).symm) (fun s a ha => by fin_cases a <;> simp_all) rfl (fun a ha => by fin_cases a <;> simp_all) (Nat.mul_one n)

/-- Windows of a memref at disjoint boxes are disjoint, squeezed or not. -/
theorem window_disjoint {sp : Space} {s : Shape} (M : Memref sig .tc sp s e) {r r' : Rect s} (h : Disjoint r.set r'.set) :
    Disjoint (α := Finset M.view.ty.Idx) (M.view.slice r).set (M.view.slice r').set := by
  rw [View.set_slice, View.set_slice]
  exact (Finset.disjoint_map _).mpr h

variable (W : Memref sig .tc .vmem (SN n) e)

/-- The elements of a slot. -/
abbrev slotSet (s : Fin n) : Finset W.view.ty.Idx := (slot W s).view.set

theorem slotSet_eq (s : Fin n) : slotSet W s = (W.view.slice (sbox n s)).set := View.set_reshape _ _

theorem slot_disjoint (s t : Fin n) (h : s ≠ t) : Disjoint (slotSet W s) (slotSet W t) := by
  rw [slotSet_eq, slotSet_eq]
  exact window_disjoint W (sbox_disjoint n s t h)

theorem slot_cover (hW : W.view.set = Finset.univ) : Finset.univ.biUnion (slotSet W) = Finset.univ := by
  ext i
  simp only [Finset.mem_biUnion, Finset.mem_univ, true_and, iff_true]
  have hi : i ∈ W.view.set := by rw [hW]; exact Finset.mem_univ _
  obtain ⟨z, -, rfl⟩ := Finset.mem_map.mp hi
  have hz : z ∈ Finset.univ.biUnion (fun s => (sbox n s).set) := by rw [sbox_cover]; exact Finset.mem_univ _
  obtain ⟨s, -, hs⟩ := Finset.mem_biUnion.mp hz
  refine ⟨s, ?_⟩
  rw [slotSet_eq, View.set_slice]
  exact Finset.mem_map_of_mem _ hs

omit [FloatOps F] in
theorem anyAt_open {sp : Space} {s : Shape} (V : Memref sig .tc sp s e) :
    (anyAt c V fullShare : sProp 𝕄) ⊢ iprop(∃ f, V.view.loc (c : Thread nD τ) ↦[V.view.set]{fullShare} f) := by
  unfold anyAt owns
  iintro ⟨%X, %f, -, H⟩
  iexists f; iexact H

omit [FloatOps F] in
/-- A buffer of slots given whole is given slot by slot, -/
theorem slots_split (hW : W.view.set = Finset.univ) :
    (iprop(∃ f : Buf (Elt F) (W.view.loc (c : Thread nD τ)), W.view.loc (c : Thread nD τ) ↦{fullShare} f) : sProp 𝕄)
      ⊢ bigSep Finset.univ fun s => anyAt c (slot W s) fullShare := by
  have h (f : Buf (Elt F) (W.view.loc (c : Thread nD τ))) : (W.view.loc (c : Thread nD τ) ↦{fullShare} f : sProp 𝕄)
      ⊢ bigSep Finset.univ fun s => anyAt c (slot W s) fullShare :=
    (Entails.of_eq (Ring.pointsTo_blocks (ℓ := W.view.loc (c : Thread nD τ)) (slotSet W) (slot_disjoint W) (slot_cover W hW) f)).trans
      (bigSep_mono fun s _ => anyAt_intro c (slot W s) f)
  iintro ⟨%f, H⟩
  iapply (h f) $$ H

omit [FloatOps F] in
/-- and back. -/
theorem slots_join (hW : W.view.set = Finset.univ) (f₀ : Buf (Elt F) (W.view.loc (c : Thread nD τ))) :
    (bigSep Finset.univ fun s => anyAt c (slot W s) fullShare)
      ⊢ (iprop(∃ f : Buf (Elt F) (W.view.loc (c : Thread nD τ)), W.view.loc (c : Thread nD τ) ↦{fullShare} f) : sProp 𝕄) :=
  (bigSep_mono fun s _ => anyAt_open c (slot W s)).trans
    (Ring.pointsTo_blocks_join_exists (ℓ := W.view.loc (c : Thread nD τ)) (slotSet W) (slot_disjoint W) (slot_cover W hW) f₀)

end Slots

/-! ## Rows -/

/-- The first row of the own half, of the other half. -/
def rowA (c : Dev nD) : ℕ := 2048 * (c.val / 8)
def rowB (c : Dev nD) : ℕ := 2048 * (1 - c.val / 8)

theorem offA_eq (c : Dev nD) (j : Fin 8) : offA c j = ![rowA c + 256 * j.val, 0] := by revert c j; decide
theorem offB_eq (c : Dev nD) (j : Fin 8) : offB c j = ![rowB c + 256 * j.val, 0] := by revert c j; decide
theorem offP_eq (c : Dev nD) (j : Fin 8) : offP c j = ![0, rowA c + 256 * j.val, 0] := by revert c j; decide

abbrev rowPSet (c : Dev nD) (j : Fin 8) : Finset aP.view.ty.Idx := (rowP c j).view.set
abbrev boxP (c : Dev nD) (j : Fin 8) : Rect S1x4096x4096 := Rect.unit (s := S1x4096x4096) (offP c j) S1x256x4096.size (offP_inb c j)
theorem rowPSet_eq (c : Dev nD) (j : Fin 8) : rowPSet c j = (aP.view.slice (boxP c j)).set :=
  View.set_reshape _ _

theorem rowP_disjoint (i j : Fin 8) (h : i ≠ j) : Disjoint (rowPSet c i) (rowPSet c j) := by
  rw [rowPSet_eq, rowPSet_eq]
  refine window_disjoint aP (Rect.unit_disjoint (1 : Fin 3) ?_)
  rw [offP_eq, offP_eq]
  have : i.val ≠ j.val := fun e => h (Fin.ext e)
  show _ + 256 ≤ _ ∨ _ + 256 ≤ _
  simp; omega

abbrev boxA (c : Dev nD) (j : Fin 8) : Rect S4096x4096 := Rect.unit (s := S4096x4096) (offA c j) S256x4096.size (k0_off3_inb c j)
abbrev boxB (c : Dev nD) (j : Fin 8) : Rect S4096x4096 := Rect.unit (s := S4096x4096) (offB c j) S256x4096.size (k0_off5_inb c j)

theorem boxA_disjoint (i j : Fin 8) (h : i ≠ j) : Disjoint (boxA c i).set (boxA c j).set := by
  refine Rect.unit_disjoint (0 : Fin 2) ?_
  rw [offA_eq, offA_eq]
  have : i.val ≠ j.val := fun e => h (Fin.ext e)
  show _ + 256 ≤ _ ∨ _ + 256 ≤ _
  simp; omega
theorem boxB_disjoint (i j : Fin 8) (h : i ≠ j) : Disjoint (boxB c i).set (boxB c j).set := by
  refine Rect.unit_disjoint (0 : Fin 2) ?_
  rw [offB_eq, offB_eq]
  have : i.val ≠ j.val := fun e => h (Fin.ext e)
  show _ + 256 ≤ _ ∨ _ + 256 ≤ _
  simp; omega
theorem boxAB_disjoint (i j : Fin 8) : Disjoint (boxA c i).set (boxB c j).set := by
  refine Rect.unit_disjoint (0 : Fin 2) ?_
  rw [offA_eq, offB_eq]
  have hi := i.isLt; have hj := j.isLt
  have hc : c.val / 8 ≤ 1 := by have : c.val < 16 := c.isLt; omega
  show rowA c + 256 * i.val + 256 ≤ rowB c + 256 * j.val ∨ rowB c + 256 * j.val + 256 ≤ rowA c + 256 * i.val
  unfold rowA rowB
  omega

/-- Disjoint sets of elements taken out of a buffer. -/
theorem take_out {ℓ : Loc nD τ sig} (S : Finset (Idx ℓ)) (K : Fin 8 → Finset (Idx ℓ)) (hd : ∀ i j, i ≠ j → Disjoint (K i) (K j))
    (hs : ∀ i, K i ⊆ S) (q : PosShare TreeShare) (f : Buf (Elt F) ℓ) :
    (ℓ ↦[S]{q} f : sProp 𝕄) ⊢ iprop((bigSep Finset.univ fun i => ℓ ↦[K i]{q} f) ∗ ℓ ↦[S \ Finset.univ.biUnion K]{q} f) := by
  rw [← pointsTo_biUnion Finset.univ K fun i _ j _ h => hd i j h]
  exact (pointsTo_split_subset (Finset.biUnion_subset.mpr fun i _ => hs i)).1

/-- The rows read, of the partial sums and of the residual. -/
theorem inP_intro :
    ((((c : Thread nD τ).loc main_arg0) ↦{fullShare.right} m ((c : Thread nD τ).loc main_arg0)) : sProp 𝕄) ⊢ inP m c 0 := by
  have h := (take_out (F := F) (ℓ := (c : Thread nD τ).loc main_arg0) Finset.univ (rowPSet c) (rowP_disjoint c) (fun _ => Finset.subset_univ _)
    fullShare.right (m ((c : Thread nD τ).loc main_arg0))).trans sep_elim_left
  unfold inP
  rw [rest_zero]
  exact h.trans (bigSep_mono fun j _ => owns_intro c (rowP c j) fullShare.right _)

abbrev winR (c : Dev nD) (j : Fin 8) : Finset aR.view.ty.Idx := (aR.view.slice (boxA c j)).set
theorem inR_intro :
    ((((c : Thread nD τ).loc main_arg1) ↦{fullShare.right} m ((c : Thread nD τ).loc main_arg1)) : sProp 𝕄) ⊢ inR m c 0 := by
  have h := (take_out (F := F) (ℓ := (c : Thread nD τ).loc main_arg1) Finset.univ (winR c)
    (fun i j h => window_disjoint aR (boxA_disjoint c i j h)) (fun _ => Finset.subset_univ _)
    fullShare.right (m ((c : Thread nD τ).loc main_arg1))).trans sep_elim_left
  unfold inR
  rw [rest_zero]
  exact h.trans (bigSep_mono fun j _ => owns_intro c (rowR c j) fullShare.right _)

abbrev winA (c : Dev nD) (j : Fin 8) : Finset aO.view.ty.Idx := (aO.view.slice (boxA c j)).set
abbrev winB (c : Dev nD) (j : Fin 8) : Finset aO.view.ty.Idx := (aO.view.slice (boxB c j)).set

/-- The rows written. -/
theorem todo_intro (f : Buf (Elt F) ((c : Thread nD τ).loc main_v1)) :
    ((((c : Thread nD τ).loc main_v1) ↦{fullShare} f) : sProp 𝕄) ⊢ iprop(todoA c 0 ∗ todoB c 0) := by
  have hA := take_out (F := F) (ℓ := (c : Thread nD τ).loc main_v1) Finset.univ (winA c)
    (fun i j h => window_disjoint aO (boxA_disjoint c i j h)) (fun _ => Finset.subset_univ _) fullShare f
  have hB := (take_out (F := F) (ℓ := (c : Thread nD τ).loc main_v1) (Finset.univ \ Finset.univ.biUnion (winA c)) (winB c)
    (fun i j h => window_disjoint aO (boxB_disjoint c i j h))
    (fun j x hx => by
      refine Finset.mem_sdiff.mpr ⟨Finset.mem_univ _, fun hx' => ?_⟩
      obtain ⟨i, -, hi⟩ := Finset.mem_biUnion.mp hx'
      exact Finset.disjoint_left.mp (window_disjoint aO (boxAB_disjoint c i j)) hi hx) fullShare f).trans sep_elim_left
  unfold todoA todoB
  rw [rest_zero]
  exact (hA.trans (sep_mono_right hB)).trans (BI.sep_mono (bigSep_mono fun j _ => anyAt_intro c (rowOA c j) f)
    (bigSep_mono fun j _ => anyAt_intro c (rowOB c j) f))

/-! ## The final memory read -/

theorem read_owns {sp : Space} {s : Shape} {e : EltTy} (V : Memref sig .tc sp s e) (q : PosShare TreeShare) (X : s.Idx → Elt F e)
    (st : Phys nD τ sig (Elt F)) :
    iprop(owns (c : Thread nD τ) V q X ∗ SI st) ⊢ (⌜V.view.read (Elt F) (st.mem.mem (V.view.loc (c : Thread nD τ))) = X⌝ : sProp 𝕄) := by
  unfold owns
  iintro ⟨⟨%f, %hf, H⟩, HSI⟩
  ihave %h := (SI_pointsTo_agree (st := st)) $$ [HSI H]
  · isplitl [HSI]; · iexact HSI
    iexact H
  ipureintro
  rw [← hf]
  exact View.read_congr fun i hi => h i hi

end Cert.KernelIdeal.Pf

end
-- ==== Proof.Ghost.lean ====
/- The launch's ghost state: the cells and tokens minted, the invariants allocated, each token dealt
   to the device that pays by it, and the credits that the owed copies make. -/
module

public import proofs.«01_k».proof.Proof.Buffers

@[expose] public section

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## Cells and tokens minted -/

/-- A semaphore's number: the barrier 0, a copy's semaphore one more than its own. -/
def semNo : SemLoc sig → ℕ
  | .reg _ => 0
  | .dma i => i.val + 1

theorem csem_injective : Function.Injective csem := by
  intro i j h
  have : semNo (csem i) = semNo (csem j) := congrArg semNo h
  revert this
  revert i j
  decide

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

def protoCells : Finset (GSem nD τ sig) := Finset.univ.map ⟨kcell, kcell_injective⟩

/-- The tokens of a device's own cells: two of the barrier, and per direction and block one of the
    departure and one of the arrival. -/
abbrev TokIx : Type := Bool ⊕ ((Bool × Fin 8) ⊕ (Bool × Fin 8))

def tokSem : TokIx → SemLoc sig × ℕ × Bool
  | .inl b => (.reg bar, 0, b)
  | .inr (.inl (b, j)) => (.dma (sS (dirOf b) (md 3 j)), j.val / 3, false)
  | .inr (.inr (b, j)) => (.dma (sR (dirOf b) (md 4 j)), j.val / 4, false)

def tokNo (t : TokIx) : ℕ × ℕ × Bool := (semNo (tokSem t).1, (tokSem t).2)

theorem tokNo_injective : ∀ t t' : TokIx, tokNo t = tokNo t' → t = t' := by
  set_option maxRecDepth 20000 in
  decide

def tokOf (ct : Dev nD × TokIx) : GSem nD τ sig × ℕ × Bool := (((ct.1 : Thread nD τ), (tokSem ct.2).1), (tokSem ct.2).2)

theorem tokOf_injective : Function.Injective tokOf := by
  rintro ⟨c, t⟩ ⟨c', t'⟩ h
  have h1 : c = c' := congrArg (fun x : GSem nD τ sig × ℕ × Bool => x.1.1.1) h
  have h2 : t = t' := tokNo_injective t t' (congrArg (fun x : GSem nD τ sig × ℕ × Bool => (semNo x.1.2, x.2)) h)
  rw [h1, h2]

def protoToks : Finset (GSem nD τ sig × ℕ × Bool) := Finset.univ.map ⟨tokOf, tokOf_injective⟩

/-- What the launch mints: the staging copies' rounds, the protocol's. -/
def u₀ : UU :=
  (initOf (Pipeline.cells cfgs cellOf_inj) (Pipeline.launchToks cfgs cellOf_inj), (initOf protoCells protoToks, 1))

/-! ## Tokens of a device, as minted and as paid -/

def sndTok (d : Dir) (c : Dev nD) (j : Fin 8) : sProp 𝕄 := dutyTok ER (sndCell d c (md 3 j)) (j.val / 3) false
def rcvTok (d : Dir) (c : Dev nD) (j : Fin 8) : sProp 𝕄 := dutyTok ER (rcvCell d c (md 4 j)) (j.val / 4) false
def barTok (d : Dir) (c : Dev nD) : sProp 𝕄 := dutyTok ER (barCell c) 0 (dutyOf d)

def toks (c : Dev nD) : sProp 𝕄 :=
  iprop((barTok .y c ∗ barTok .x c)
    ∗ (bigSep Finset.univ (sndTok .y c) ∗ bigSep Finset.univ (sndTok .x c))
    ∗ (bigSep Finset.univ (rcvTok .y c) ∗ bigSep Finset.univ (rcvTok .x c)))

def payToks (c : Dev nD) : sProp 𝕄 :=
  iprop((barTok .y (nbr .y c) ∗ barTok .x (nbr .x c))
    ∗ (bigSep Finset.univ (sndTok .y c) ∗ bigSep Finset.univ (sndTok .x c))
    ∗ (bigSep Finset.univ (rcvTok .y (nbr .y c)) ∗ bigSep Finset.univ (rcvTok .x (nbr .x c))))

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv (nbrEquiv .y) (fun c : Dev nD => (barTok .y c : sProp 𝕄)),
    bigSep_univ_equiv (nbrEquiv .x) (fun c : Dev nD => (barTok .x c : sProp 𝕄)),
    bigSep_univ_equiv (nbrEquiv .y) (fun c : Dev nD => (bigSep Finset.univ (rcvTok .y c) : sProp 𝕄)),
    bigSep_univ_equiv (nbrEquiv .x) (fun c : Dev nD => (bigSep Finset.univ (rcvTok .x c) : sProp 𝕄))]
  exact BI.Entails.refl _

/-- What the launch deals a device. -/
def G (c : Dev nD) : sProp 𝕄 :=
  iprop((bigSep Finset.univ fun k : Fin 15 => roundState ER (sched m) (kcell (c, k)) 0)
    ∗ (bigSep Finset.univ fun k : Fin 15 => iprop(atPos ER (kcell (c, k)) 0 ∅ 0 ∗ reached ER (kcell (c, k)) 0)) ∗ toks c)

omit [FloatOps F] in
theorem toks_eq (c : Dev nD) :
    (bigSep Finset.univ fun t : TokIx => dutyTok ER (tokOf (c, t)).1 (tokOf (c, t)).2.1 (tokOf (c, t)).2.2 : sProp 𝕄) = toks c := by
  have hB (Φ : Bool → sProp 𝕄) : bigSep Finset.univ Φ = iprop(Φ false ∗ Φ true) :=
    bigSep_univ_eq_bigSepL [false, true] (by decide) (by decide) Φ
  rw [bigSep_univ_sum, bigSep_univ_sum, bigSep_univ_prod, bigSep_univ_prod, hB, hB, hB]
  rfl

theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 15 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => toks_eq c
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores handed over at zero -/

/-- The kernel's own semaphores, by number. -/
def osem (i : Fin 20) : SemLoc sig := .dma ⟨i.val + 1, by have := i.isLt; show i.val + 1 < 21; omega⟩

/-- The semaphores of the local copies, at zero. -/
def sixSems (c : Dev nD) : sProp 𝕄 :=
  iprop((semVal ((c : Thread nD τ), SemLoc.dma (lP 0)) 0 ∗ semVal ((c : Thread nD τ), SemLoc.dma (lP 1)) 0)
    ∗ (semVal ((c : Thread nD τ), SemLoc.dma (lR 0)) 0 ∗ semVal ((c : Thread nD τ), SemLoc.dma (lR 1)) 0)
    ∗ semVal ((c : Thread nD τ), SemLoc.dma stA) 0 ∗ semVal ((c : Thread nD τ), SemLoc.dma stB) 0)

omit [FloatOps F] in
theorem unscopedSems0_eq (c : Dev nD) : (unscopedSems0 c : sProp 𝕄) = semVal (barCell c) 0 := by
  unfold unscopedSems0; rw [bigSep_eq_bigSepL_of_eq [SemLoc.reg bar] (by decide) (by decide)]; rfl

/-- A device's own semaphores. -/
abbrev own0 (c : Dev nD) : sProp 𝕄 := Pipeline.ownSems0 (Ix := ℕ) (Name := ℕ) (U := UU) (Lvl := ℕ) (Val := Elt F) (τ := τ) osem c

omit [FloatOps F] in
theorem own0_eq (c : Dev nD) : (own0 c : sProp 𝕄)
    = (let z (k : Fin 20) : sProp 𝕄 := semVal ((c : Thread nD τ), osem k) 0
       iprop(z 0 ∗ z 1 ∗ z 2 ∗ z 3 ∗ z 4 ∗ z 5 ∗ z 6 ∗ z 7 ∗ z 8 ∗ z 9 ∗ z 10 ∗ z 11 ∗ z 12 ∗ z 13 ∗ z 14 ∗ z 15 ∗ z 16 ∗ z 17 ∗ z 18 ∗ z 19)) :=
  Pipeline.ownSems0_eq_of_list c osem [0, 1, 2, 3, 4, 5, 6, 7, 8, 9, 10, 11, 12, 13, 14, 15, 16, 17, 18, 19] (by decide) (by decide)

omit [FloatOps F] in
theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

omit [FloatOps F] in
theorem sems_split (c : Dev nD) :
    iprop(own0 c ∗ unscopedSems0 c) ⊢ (iprop((bigSep Finset.univ fun k : Fin 15 => semVal (kcell (c, k)) 0) ∗ sixSems c) : sProp 𝕄) := by
  rw [own0_eq, unscopedSems0_eq, bigSep_fin15]
  dsimp only
  unfold sixSems
  iintro ⟨⟨H1, H2, H3, H4, H5, H6, H7, H8, H9, H10, H11, H12, H13, H14, H15, H16, H17, H18, H19, H20⟩, HB⟩
  isplitr [H15 H16 H17 H18 H19 H20]
  · isplitl [HB]; · iexact HB
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15 H16]
  · isplitl [H15]; · iexact H15
    iexact H16
  isplitl [H17 H18]
  · isplitl [H17]; · iexact H17
    iexact H18
  isplitl [H19]; · iexact H19
  iexact H20

/-! ## Invariants -/

/-- What stays with a device: its positions, the tokens it pays by, the semaphores of its local copies. -/
def linear (c : Dev nD) : sProp 𝕄 :=
  iprop((bigSep Finset.univ fun k : Fin 15 => atPos ER (kcell (c, k)) 0 ∅ 0) ∗ payToks c ∗ sixSems c)

/-- What a device starts from, besides its buffers. -/
def G' (c : Dev nD) : sProp 𝕄 := iprop(∃ K, records m K ∗ linear c)

theorem core_alloc (c : Dev nD) :
    iprop(own0 c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ sixSems c) := by
  unfold G
  iintro ⟨Hos, Hus, Hst, Hat, Htok⟩
  ihave Hv := (sems_split (F := F) c) $$ [Hos Hus]
  · isplitl [Hos]; · iexact Hos
    iexact Hus
  icases Hv with ⟨Hv, H6⟩
  imod (show iprop((bigSep Finset.univ fun k : Fin 15 => semVal (kcell (c, k)) 0) ∗ bigSep Finset.univ fun k : Fin 15 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact H6

omit [FloatOps F] in
/-- A persistent assertion beside every member of a family. -/
theorem beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c ∗ sixSems c) : sProp 𝕄)
      ⊢ bigSep Finset.univ (G' m) := by
  rw [bigSep_sep', bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, H6⟩
  ihave HK := (BI.bigSep_exists_pi Finset.univ (fun (ck : Dev nD × Fin 15) (κ : ℕ) => (cellInv ER (sched m) κ (kcell ck) : sProp 𝕄))) $$ HI
  icases HK with ⟨%K, #HI⟩
  ihave Htk := (toks_around (F := F)) $$ Htok
  iapply (beside (R := records m K) (Φ := linear) fun c _ => show iprop(records m K ∗ linear c) ⊢ G' m c from by
    unfold G'; iintro H; iexists K; iexact H)
  isplitr
  · unfold records; isplitl; · iexact HI
    iexact HR
  · unfold linear
    simp only [bigSep_sep']
    isplitl [Hat]; · iexact Hat
    isplitl [Htk]; · iexact Htk
    iexact H6

theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## Credits -/

omit [FloatOps F] in
/-- What the neighbours owe a device along a direction. -/
theorem credD (d : Dir) (c : Dev nD) : (Pipeline.launchCred (fun e => oweD d e 0) c : sProp 𝕄) ⊢ arrs d c 0 := by
  unfold oweD arrs
  rw [Pipeline.launchCred_sum]
  exact bigSep_mono fun j _ => Pipeline.launchCred_tallyAt (.dma (sR d (md 4 j))) (nbr d) (nbr d) (nbr_nbr d) (nbr_nbr d) j.val N c

omit [FloatOps F] in
theorem creds (c : Dev nD) :
    (Pipeline.launchCred O₀ c : sProp 𝕄) ⊢ iprop((arrs .y c 0 ∗ arrs .x c 0) ∗ cred (tallyAt (barCell c) 0 2)) := by
  have h : (O₀ : Dev nD → CellTallies nD τ sig ℕ)
      = fun e => (fun e => (fun e => oweD .y e 0 + oweD .x e 0) e + tallyAt (barCell (nbr .x e)) 0 1) e + tallyAt (barCell (nbr .y e)) 0 1 := rfl
  have hb (d : Dir) : (Pipeline.launchCred (fun e => tallyAt (barCell (nbr d e)) 0 1) c : sProp 𝕄) ⊢ cred (tallyAt (barCell c) 0 1) :=
    Pipeline.launchCred_tallyAt (.reg bar) (nbr d) (nbr d) (nbr_nbr d) (nbr_nbr d) 0 1 c
  rw [h, Pipeline.launchCred_add, Pipeline.launchCred_add, Pipeline.launchCred_add]
  iintro ⟨⟨⟨Hy, Hx⟩, Hbx⟩, Hby⟩
  isplitl [Hy Hx]
  · isplitl [Hy]
    · iapply (credD .y c) $$ Hy
    · iapply (credD .x c) $$ Hx
  rw [show (2 : ℕ) = 1 + 1 from rfl, ← tallyAt_add]
  iapply (cred_add _ _).2
  isplitl [Hbx]
  · iapply (hb .x) $$ Hbx
  · iapply (hb .y) $$ Hby

end Cert.KernelIdeal.Pf

end
-- ==== Proof.Around.lean ====
/- What a device's body starts from and ends with: buffers cut into slots and joined, positions, the cells
   closed. -/
module

public import proofs.«01_k».proof.Proof.Ghost

@[expose] public section

set_option maxRecDepth 4000

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## Assertions around the body -/

/-- The half shares of the arguments that no copy uses: they keep the arrays as they were. -/
def keep (c : Dev nD) : sProp 𝕄 :=
  iprop((((c : Thread nD τ).loc main_arg0) ↦{fullShare.left} m ((c : Thread nD τ).loc main_arg0))
    ∗ (((c : Thread nD τ).loc main_arg1) ↦{fullShare.left} m ((c : Thread nD τ).loc main_arg1)))

/-- A device's arrays in main memory that the pipeline does not stage. -/
def arrays (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

def start (c : Dev nD) : sProp 𝕄 :=
  iprop(G' m c ∗ levs ∗ Pipeline.launchCred O₀ c ∗ arrays m c)

/-- A device's scratch buffers, at any contents. -/
abbrev scratch (c : Dev nD) : sProp 𝕄 := Pipeline.scopedRest spec0 c

/-- What a device ends with in main memory, and its barrier closed. -/
def finish (c : Dev nD) : sProp 𝕄 := iprop(unscopedSems0 c ∗ keep m c ∗ doneA m c 8 ∗ doneB m c 8)

def Φ₀ (c : Dev nD) : sProp 𝕄 := iprop(start m c ∗ scratch c)
def Φ₁ (c : Dev nD) : sProp 𝕄 := iprop(finish m c ∗ own0 c ∗ scratch c)

/-! ## Opening -/

omit [FloatOps F] in
theorem bigSep_two (Φ : Fin 2 → sProp 𝕄) : bigSep Finset.univ Φ = iprop(Φ 0 ∗ Φ 1) :=
  bigSep_univ_eq_bigSepL [0, 1] (by decide) (by decide) Φ
omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Buffers of four, three, two slots: whole, and in slots. -/
theorem four_split (c : Dev nD) (W : Memref sig .tc .vmem (SN 4) .bf16) (hW : W.view.set = Finset.univ) :
    (iprop(∃ f : Buf (Elt F) (W.view.loc (c : Thread nD τ)), W.view.loc (c : Thread nD τ) ↦{fullShare} f) : sProp 𝕄)
      ⊢ iprop(anyAt c (slot W 0) fullShare ∗ anyAt c (slot W 1) fullShare ∗ anyAt c (slot W 2) fullShare ∗ anyAt c (slot W 3) fullShare) :=
  (slots_split c W hW).trans (Entails.of_eq (bigSep_four _))
omit [FloatOps F] in
theorem three_split (c : Dev nD) (W : Memref sig .tc .vmem (SN 3) .bf16) (hW : W.view.set = Finset.univ) :
    (iprop(∃ f : Buf (Elt F) (W.view.loc (c : Thread nD τ)), W.view.loc (c : Thread nD τ) ↦{fullShare} f) : sProp 𝕄)
      ⊢ iprop(anyAt c (slot W 0) fullShare ∗ anyAt c (slot W 1) fullShare ∗ anyAt c (slot W 2) fullShare) :=
  (slots_split c W hW).trans (Entails.of_eq (bigSep_three _))
omit [FloatOps F] in
theorem two_split (c : Dev nD) (W : Memref sig .tc .vmem (SN 2) .f32) (hW : W.view.set = Finset.univ) :
    (iprop(∃ f : Buf (Elt F) (W.view.loc (c : Thread nD τ)), W.view.loc (c : Thread nD τ) ↦{fullShare} f) : sProp 𝕄)
      ⊢ iprop(anyAt c (slot W 0) fullShare ∗ anyAt c (slot W 1) fullShare) :=
  (slots_split c W hW).trans (Entails.of_eq (bigSep_two _))
omit [FloatOps F] in
theorem one_split (c : Dev nD) (W : Memref sig .tc .vmem S256x4096 .f32) (hW : W.view.set = Finset.univ) :
    (iprop(∃ f : Buf (Elt F) (W.view.loc (c : Thread nD τ)), W.view.loc (c : Thread nD τ) ↦{fullShare} f) : sProp 𝕄)
      ⊢ anyAt c W fullShare := by
  have h (f : Buf (Elt F) (W.view.loc (c : Thread nD τ))) := anyAt_intro (F := F) c W f
  rw [hW] at h
  iintro ⟨%f, H⟩
  iapply (h f) $$ H

omit [FloatOps F] in
theorem four_join (c : Dev nD) (W : Memref sig .tc .vmem (SN 4) .bf16) (hW : W.view.set = Finset.univ) (f₀ : Buf (Elt F) (W.view.loc (c : Thread nD τ))) :
    iprop(anyAt c (slot W 0) fullShare ∗ anyAt c (slot W 1) fullShare ∗ anyAt c (slot W 2) fullShare ∗ anyAt c (slot W 3) fullShare)
      ⊢ (iprop(∃ f : Buf (Elt F) (W.view.loc (c : Thread nD τ)), W.view.loc (c : Thread nD τ) ↦{fullShare} f) : sProp 𝕄) :=
  (Entails.of_eq (bigSep_four fun s => anyAt c (slot W s) fullShare).symm).trans (slots_join c W hW f₀)
omit [FloatOps F] in
theorem three_join (c : Dev nD) (W : Memref sig .tc .vmem (SN 3) .bf16) (hW : W.view.set = Finset.univ) (f₀ : Buf (Elt F) (W.view.loc (c : Thread nD τ))) :
    iprop(anyAt c (slot W 0) fullShare ∗ anyAt c (slot W 1) fullShare ∗ anyAt c (slot W 2) fullShare)
      ⊢ (iprop(∃ f : Buf (Elt F) (W.view.loc (c : Thread nD τ)), W.view.loc (c : Thread nD τ) ↦{fullShare} f) : sProp 𝕄) :=
  (Entails.of_eq (bigSep_three fun s => anyAt c (slot W s) fullShare).symm).trans (slots_join c W hW f₀)
omit [FloatOps F] in
theorem two_join (c : Dev nD) (W : Memref sig .tc .vmem (SN 2) .f32) (hW : W.view.set = Finset.univ) (f₀ : Buf (Elt F) (W.view.loc (c : Thread nD τ))) :
    iprop(anyAt c (slot W 0) fullShare ∗ anyAt c (slot W 1) fullShare)
      ⊢ (iprop(∃ f : Buf (Elt F) (W.view.loc (c : Thread nD τ)), W.view.loc (c : Thread nD τ) ↦{fullShare} f) : sProp 𝕄) :=
  (Entails.of_eq (bigSep_two fun s => anyAt c (slot W s) fullShare).symm).trans (slots_join c W hW f₀)
omit [FloatOps F] in
theorem one_join (c : Dev nD) (W : Memref sig .tc .vmem S256x4096 .f32) (hW : W.view.set = Finset.univ) :
    (anyAt c W fullShare : sProp 𝕄)
      ⊢ iprop(∃ f : Buf (Elt F) (W.view.loc (c : Thread nD τ)), W.view.loc (c : Thread nD τ) ↦{fullShare} f) := by
  have h := anyAt_open (F := F) c W
  rw [hW] at h
  exact h

/-- The slots and the local copies' buffers of a device. -/
def bufs (c : Dev nD) : sProp 𝕄 :=
  iprop(slots c ∗ (anyAt c (slot pbF 0) fullShare ∗ anyAt c (slot pbF 1) fullShare) ∗ (anyAt c (slot rdA 0) fullShare ∗ anyAt c (slot rdA 1) fullShare)
    ∗ anyAt c ouA fullShare ∗ anyAt c ouB fullShare)

omit [FloatOps F] in
theorem scratch_open (c : Dev nD) : (scratch c : sProp 𝕄) ⊢ bufs c := by
  rw [show (scratch c : sProp 𝕄) = _ from scopedRest0_eq c]
  unfold bufs slots
  iintro ⟨H0, H1, H2, H3, H4, H5, H6, H7⟩
  ihave K0 := (four_split (F := F) c ohA (View.set_whole _)) $$ H0
  ihave K1 := (four_split (F := F) c ohB (View.set_whole _)) $$ H1
  ihave K2 := (three_split (F := F) c pbA (View.set_whole _)) $$ H2
  ihave K3 := (two_split (F := F) c pbF (View.set_whole _)) $$ H3
  ihave K4 := (two_split (F := F) c rdA (View.set_whole _)) $$ H4
  ihave K5 := (three_split (F := F) c fwd (View.set_whole _)) $$ H5
  ihave K6 := (one_split (F := F) c ouA (View.set_whole _)) $$ H6
  ihave K7 := (one_split (F := F) c ouB (View.set_whole _)) $$ H7
  isplitl [K0 K1 K2 K5]
  · isplitl [K0]; · iexact K0
    isplitl [K1]; · iexact K1
    isplitl [K2]; · iexact K2
    iexact K5
  isplitl [K3]; · iexact K3
  isplitl [K4]; · iexact K4
  isplitl [K6]; · iexact K6
  iexact K7

include m in
theorem scratch_close (c : Dev nD) : bufs c ⊢ (scratch c : sProp 𝕄) := by
  rw [show (scratch c : sProp 𝕄) = _ from scopedRest0_eq c]
  unfold bufs slots
  iintro ⟨⟨K0, K1, K2, K5⟩, K3, K4, K6, K7⟩
  isplitl [K0]; · iapply (four_join (F := F) c ohA (View.set_whole _) (m _)) $$ K0
  isplitl [K1]; · iapply (four_join (F := F) c ohB (View.set_whole _) (m _)) $$ K1
  isplitl [K2]; · iapply (three_join (F := F) c pbA (View.set_whole _) (m _)) $$ K2
  isplitl [K3]; · iapply (two_join (F := F) c pbF (View.set_whole _) (m _)) $$ K3
  isplitl [K4]; · iapply (two_join (F := F) c rdA (View.set_whole _) (m _)) $$ K4
  isplitl [K5]; · iapply (three_join (F := F) c fwd (View.set_whole _) (m _)) $$ K5
  isplitl [K6]; · iapply (one_join (F := F) c ouA (View.set_whole _)) $$ K6
  iapply (one_join (F := F) c ouB (View.set_whole _)) $$ K7

omit [FloatOps F] in
/-- The local copies' buffers with their semaphores. -/
theorem bufs_open (c : Dev nD) : iprop(bufs c ∗ sixSems c) ⊢ (iprop(slots c ∗ idles c) : sProp 𝕄) := by
  unfold bufs sixSems idles idleP idleR idleA idleB
  iintro ⟨⟨Hs, ⟨HP0, HP1⟩, ⟨HR0, HR1⟩, HA, HB⟩, ⟨VP0, VP1⟩, ⟨VR0, VR1⟩, VA, VB⟩
  isplitl [Hs]; · iexact Hs
  isplitl [HP0 HP1 VP0 VP1]
  · isplitl [HP0 VP0]
    · isplitl [VP0]; · iexact VP0
      iexact HP0
    isplitl [VP1]; · iexact VP1
    iexact HP1
  isplitl [HR0 HR1 VR0 VR1]
  · isplitl [HR0 VR0]
    · isplitl [VR0]; · iexact VR0
      iexact HR0
    isplitl [VR1]; · iexact VR1
    iexact HR1
  isplitl [HA VA]
  · isplitl [VA]; · iexact VA
    iexact HA
  isplitl [VB]; · iexact VB
  iexact HB

omit [FloatOps F] in
theorem bufs_close (c : Dev nD) : iprop(slots c ∗ idles c) ⊢ (iprop(bufs c ∗ sixSems c) : sProp 𝕄) := by
  unfold bufs sixSems idles idleP idleR idleA idleB
  iintro ⟨Hs, ⟨⟨VP0, HP0⟩, ⟨VP1, HP1⟩⟩, ⟨⟨VR0, HR0⟩, ⟨VR1, HR1⟩⟩, ⟨VA, HA⟩, ⟨VB, HB⟩⟩
  isplitr [VP0 VP1 VR0 VR1 VA VB]
  · isplitl [Hs]; · iexact Hs
    isplitl [HP0 HP1]
    · isplitl [HP0]; · iexact HP0
      iexact HP1
    isplitl [HR0 HR1]
    · isplitl [HR0]; · iexact HR0
      iexact HR1
    isplitl [HA]; · iexact HA
    iexact HB
  isplitl [VP0 VP1]
  · isplitl [VP0]; · iexact VP0
    iexact VP1
  isplitl [VR0 VR1]
  · isplitl [VR0]; · iexact VR0
    iexact VR1
  isplitl [VA]; · iexact VA
  iexact VB

/-- The positions at round 0, with the marks that the records give. -/
theorem poses_open (K : Dev nD × Fin 15 → ℕ) (c : Dev nD) :
    (iprop(ctx m K ∗ bigSep Finset.univ fun k : Fin 15 => atPos ER (kcell (c, k)) 0 ∅ 0) : sProp 𝕄)
      ⊢ iprop(atPos ER (barCell c) 0 ∅ 0 ∗ poses c 0 0 0) := by
  have hS (d : Dir) (s : Fin 3) : (iprop(ctx m K ∗ atPos ER (kcell (c, ixS d s)) 0 ∅ 0) : sProp 𝕄) ⊢ posS d c s 0 := by
    have h := ctx_reached (F := F) m K (c, ixS d s)
    unfold posS
    rw [kcell_snd] at h ⊢
    iintro ⟨HC, H⟩
    isplitl [H]; · iexact H
    iapply h $$ HC
  have hR (d : Dir) (s : Fin 4) : (iprop(ctx m K ∗ atPos ER (kcell (c, ixR d s)) 0 ∅ 0) : sProp 𝕄) ⊢ posR d c s 0 := by
    have h := ctx_reached (F := F) m K (c, ixR d s)
    unfold posR
    rw [kcell_rcv] at h ⊢
    iintro ⟨HC, H⟩
    isplitl [H]; · iexact H
    iapply h $$ HC
  rw [bigSep_fin15]
  unfold poses
  iintro ⟨#HC, H0, H1, H2, H3, H4, H5, H6, H7, H8, H9, H10, H11, H12, H13, H14⟩
  isplitl [H0]; · iexact H0
  isplitl [H4 H5 H6 H7]
  · isplitl [H4]
    · iapply (hR .y 0)
      isplitr; · iexact HC
      iexact H4
    isplitl [H5]
    · iapply (hR .y 1)
      isplitr; · iexact HC
      iexact H5
    isplitl [H6]
    · iapply (hR .y 2)
      isplitr; · iexact HC
      iexact H6
    iapply (hR .y 3)
    isplitr; · iexact HC
    iexact H7
  isplitl [H11 H12 H13 H14]
  · isplitl [H11]
    · iapply (hR .x 0)
      isplitr; · iexact HC
      iexact H11
    isplitl [H12]
    · iapply (hR .x 1)
      isplitr; · iexact HC
      iexact H12
    isplitl [H13]
    · iapply (hR .x 2)
      isplitr; · iexact HC
      iexact H13
    iapply (hR .x 3)
    isplitr; · iexact HC
    iexact H14
  isplitl [H1 H2 H3]
  · isplitl [H1]
    · iapply (hS .y 0)
      isplitr; · iexact HC
      iexact H1
    isplitl [H2]
    · iapply (hS .y 1)
      isplitr; · iexact HC
      iexact H2
    iapply (hS .y 2)
    isplitr; · iexact HC
    iexact H3
  isplitl [H8]
  · iapply (hS .x 0)
    isplitr; · iexact HC
    iexact H8
  isplitl [H9]
  · iapply (hS .x 1)
    isplitr; · iexact HC
    iexact H9
  iapply (hS .x 2)
  isplitr; · iexact HC
  iexact H10

/-- Everything a body starts from. -/
theorem open_pre (c : Dev nD) :
    (iprop(Φ₀ m c ∗ ∃ W, owes (c : Thread nD τ) (O₀ c) W) : sProp 𝕄) ⊢ iprop(∃ K, ctx m K ∗ pre m c ∗ keep m c) := by
  unfold Φ₀ start G' arrays linear payToks
  iintro ⟨⟨⟨⟨%K, #HR, Hat, ⟨Hbt, Hst, Hrt⟩, H6⟩, #HL, Hcr, H0, H1, Hv⟩, Hsc⟩, HO⟩
  iexists K
  ihave #HC := (show iprop(records m K ∗ levs) ⊢ (ctx m K : sProp 𝕄) from by unfold ctx; iintro H; iexact H) $$ []
  · isplitr; · iexact HR
    iexact HL
  ihave Hb := (scratch_open (F := F) c) $$ Hsc
  ihave Hb := (bufs_open (F := F) c) $$ [Hb H6]
  · isplitl [Hb]; · iexact Hb
    iexact H6
  icases Hb with ⟨Hsl, Hid⟩
  ihave Hp := (poses_open m K c) $$ [Hat]
  · isplitr; · iexact HC
    iexact Hat
  icases Hp with ⟨HbA, Hp⟩
  ihave Hcr := (creds (F := F) c) $$ Hcr
  icases Hcr with ⟨Hcr, Hcb⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave HiP := (inP_intro m c) $$ H0r
  ihave HiR := (inR_intro m c) $$ H1r
  ihave Htd := (todo_intro (F := F) c _) $$ Hv
  isplitr; · iexact HC
  isplitr [H0l H1l]
  · unfold pre fresh
    isplitl [HO Hst Hrt Hbt Hcb HbA]
    · isplitl [HO]; · iexact HO
      isplitl [Hst Hrt]
      · rw [rest_zero]
        unfold tokS
        rw [bigSep_sep', bigSep_sep']
        icases Hst with ⟨Hsy, Hsx⟩
        icases Hrt with ⟨Hry, Hrx⟩
        isplitl [Hsy Hry]
        · isplitl [Hsy]; · iexact Hsy
          iexact Hry
        isplitl [Hsx]; · iexact Hsx
        iexact Hrx
      isplitl [Hbt]; · iexact Hbt
      isplitl [Hcb]; · iexact Hcb
      iexact HbA
    isplitl [Hcr]; · iexact Hcr
    isplitl [Hp]; · iexact Hp
    isplitl [Hsl]; · iexact Hsl
    isplitl [Hid]; · iexact Hid
    isplitl [HiP HiR]
    · isplitl [HiP]; · iexact HiP
      iexact HiR
    isplitl [Htd]; · iexact Htd
    unfold doneA doneB
    rw [below_zero, bigSep_empty, bigSep_empty]
    isplitr; · iempintro
    iempintro
  unfold keep
  isplitl [H0l]; · iexact H0l
  iexact H1l

/-! ## Closing -/

/-- The cells closed, every semaphore at zero. -/
theorem poses_close (K : Dev nD × Fin 15 → ℕ) (c : Dev nD) :
    (iprop(ctx m K ∗ atPos ER (barCell c) 1 ∅ 0 ∗ poses c 3 2 2) : sProp 𝕄)
      ⊢ |={Set.univ}=> bigSep Finset.univ fun k : Fin 15 => semVal (kcell (c, k)) 0 := by
  have hB : (iprop(ctx m K ∗ atPos ER (barCell c) 1 ∅ 0) : sProp 𝕄) ⊢ |={Set.univ}=> semVal (kcell (c, 0)) 0 := by
    have h := Rounds.cell_close (g := barCell c) ER (sched (F := F) m) (Set.mem_univ (K (c, 0))) id (done_bar m c)
    exact (sep_mono_left (ctx_bar m K c)).trans h
  have hS (d : Dir) (s : Fin 3) (R : ℕ) (hR : 8 ≤ s.val + 3 * R) :
      (iprop(ctx m K ∗ posS d c s R) : sProp 𝕄) ⊢ |={Set.univ}=> semVal (kcell (c, ixS d s)) 0 := by
    have h := Rounds.cell_close (g := sndCell d c s) ER (sched (F := F) m) (Set.mem_univ (K (c, ixS d s))) id (done_snd m d c s R hR)
    rw [kcell_snd]
    unfold posS
    iintro ⟨HC, H, -⟩
    iapply h
    isplitl [HC]; · iapply (ctx_snd m K d c s) $$ HC
    iexact H
  have hR (d : Dir) (s : Fin 4) :
      (iprop(ctx m K ∗ posR d c s 2) : sProp 𝕄) ⊢ |={Set.univ}=> semVal (kcell (c, ixR d s)) 0 := by
    have h := Rounds.cell_close (g := rcvCell d c s) ER (sched (F := F) m) (Set.mem_univ (K (c, ixR d s))) id (done_rcv m d c s 2 (by omega))
    rw [kcell_rcv]
    unfold posR
    iintro ⟨HC, H, -⟩
    iapply h
    isplitl [HC]; · iapply (ctx_rcv m K d c s) $$ HC
    iexact H
  rw [bigSep_fin15]
  unfold poses
  iintro ⟨#HC, H0, ⟨H4, H5, H6, H7⟩, ⟨H11, H12, H13, H14⟩, ⟨H1, H2, H3⟩, ⟨H8, H9, H10⟩⟩
  imod hB $$ [H0] with H0
  · isplitr; · iexact HC
    iexact H0
  imod (hR .y 0) $$ [H4] with H4
  · isplitr; · iexact HC
    iexact H4
  imod (hR .y 1) $$ [H5] with H5
  · isplitr; · iexact HC
    iexact H5
  imod (hR .y 2) $$ [H6] with H6
  · isplitr; · iexact HC
    iexact H6
  imod (hR .y 3) $$ [H7] with H7
  · isplitr; · iexact HC
    iexact H7
  imod (hR .x 0) $$ [H11] with H11
  · isplitr; · iexact HC
    iexact H11
  imod (hR .x 1) $$ [H12] with H12
  · isplitr; · iexact HC
    iexact H12
  imod (hR .x 2) $$ [H13] with H13
  · isplitr; · iexact HC
    iexact H13
  imod (hR .x 3) $$ [H14] with H14
  · isplitr; · iexact HC
    iexact H14
  imod (hS .y 0 3 (by decide)) $$ [H1] with H1
  · isplitr; · iexact HC
    iexact H1
  imod (hS .y 1 3 (by decide)) $$ [H2] with H2
  · isplitr; · iexact HC
    iexact H2
  imod (hS .y 2 2 (by decide)) $$ [H3] with H3
  · isplitr; · iexact HC
    iexact H3
  imod (hS .x 0 3 (by decide)) $$ [H8] with H8
  · isplitr; · iexact HC
    iexact H8
  imod (hS .x 1 3 (by decide)) $$ [H9] with H9
  · isplitr; · iexact HC
    iexact H9
  imod (hS .x 2 2 (by decide)) $$ [H10] with H10
  · isplitr; · iexact HC
    iexact H10
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

omit [FloatOps F] in
theorem sems_join (c : Dev nD) :
    (iprop((bigSep Finset.univ fun k : Fin 15 => semVal (kcell (c, k)) 0) ∗ sixSems c) : sProp 𝕄) ⊢ iprop(own0 c ∗ unscopedSems0 c) := by
  rw [own0_eq, unscopedSems0_eq, bigSep_fin15]
  dsimp only
  unfold sixSems
  iintro ⟨⟨H0, H1, H2, H3, H4, H5, H6, H7, H8, H9, H10, H11, H12, H13, H14⟩, ⟨H15, H16⟩, ⟨H17, H18⟩, H19, H20⟩
  isplitr [H0]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iexact H0

/-- What is left once the body is through. -/
theorem close_post (K : Dev nD × Fin 15 → ℕ) (c : Dev nD) :
    (iprop(ctx m K ∗ post m c ∗ keep m c) : sProp 𝕄) ⊢ |={Set.univ}=> iprop(Φ₁ m c ∗ ∃ W, owes (c : Thread nD τ) 0 W) := by
  have h0 : ow c 8 8 = 0 := by unfold ow oweD; rw [rest_eight]; simp
  unfold post ows Φ₁ finish
  rw [h0]
  iintro ⟨#HC, ⟨⟨%W, HO, -⟩, Hb, Hp, Hsl, Hid, HA, HB⟩, Hk⟩
  imod (poses_close m K c) $$ [Hb Hp] with Hs
  · isplitr; · iexact HC
    isplitl [Hb]; · iexact Hb
    iexact Hp
  ihave Hx := (bufs_close (F := F) c) $$ [Hsl Hid]
  · isplitl [Hsl]; · iexact Hsl
    iexact Hid
  icases Hx with ⟨Hx, H6⟩
  ihave Hsc := (scratch_close m c) $$ Hx
  ihave Hs := (sems_join (F := F) c) $$ [Hs H6]
  · isplitl [Hs]; · iexact Hs
    iexact H6
  icases Hs with ⟨Hown, Hun⟩
  imodintro
  isplitr [HO]
  · isplitl [Hun Hk HA HB]
    · isplitl [Hun]; · iexact Hun
      isplitl [Hk]; · iexact Hk
      isplitl [HA]; · iexact HA
      iexact HB
    isplitl [Hown]; · iexact Hown
    iexact Hsc
  iexists W
  iexact HO

end Cert.KernelIdeal.Pf

end
-- ==== Proof.Launch.lean ====
/- The whole run of the mesh: from any memory with zero counters every execution ends, the arguments
   unchanged, the result's rows as computed, every counter at zero. -/
module

public import proofs.«01_k».proof.Proof.Around
public import proofs.«01_k».proof.Proof.Gen.KernelIdeal.Points
public import Idealize.ShloMosaic.Lib.Pipeline.CollectiveSegs

@[expose] public section

set_option maxRecDepth 4000

noncomputable section

namespace Cert.KernelIdeal.Pf

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The body as the launch runs it -/

def dats (_ : Fin 1) (c : Dev nD) : Dat τ (Elt F) ℕ ℕ UU ℕ cfg0 c where
  A w := m ((cfg0.win w).arr.view.loc (c : Thread nD τ))
  after w _ := match w with
    | ⟨0, _⟩ => gam m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem before_eq (c : Dev nD) (d : (win0_0.stage (0 : Fin 1)).view.ref.ty.Contents (Elt F)) :
    (dats m 0 c).before (0 : Fin 1) t0_0 d = gam m c := by
  unfold Dat.before
  rw [if_pos (fetch0_0 t0_0)]
  rfl

/-- The staging buffer of the weights. -/
abbrev stgM : Memref sig .tc .vmem S4096 .f32 := Memref.whole cc0_stg0_0

def bodyPre (c : Dev nD) : sProp 𝕄 :=
  iprop(Φ₀ m c ∗ (dats m 0 c).owesAt 0 t0_0.castSucc ∗ ∃ d, owns (c : Thread nD τ) stgM fullShare ((dats m 0 c).before (0 : Fin 1) t0_0 d))
def bodyPost (c : Dev nD) : sProp 𝕄 :=
  iprop(Φ₁ m c ∗ (dats m 0 c).owesAt 0 t0_0.succ ∗ owns (c : Thread nD τ) stgM fullShare (gam m c))

theorem sound_body (c : Dev nD) : bodyPre m c ⊢ Wp c (loop stgM) (fun _ => bodyPost m c) := by
  unfold bodyPre Dat.owesAt Pipeline.owesWithin
  rw [show (dats m 0 c).owed t0_0.castSucc = O₀ c from rfl]
  iintro ⟨HΦ, ⟨%W, -, HO⟩, %d, Hg⟩
  rw [before_eq]
  ihave H := (open_pre m c) $$ [HΦ HO]
  · isplitl [HΦ]; · iexact HΦ
    iexists W; iexact HO
  icases H with ⟨%K, #HC, Hpre, Hk⟩
  iapply (wp_loop m K c stgM _) $$ [Hpre Hg]
  · isplitr; · iexact HC
    unfold wts
    isplitl [Hg]; · iexact Hg
    iexact Hpre
  iintro Hg Hpost
  iapply (show iprop(|={Set.univ}=> bodyPost m c) ⊢ Wp c (pure ⟨⟩ : BProg F PUnit) (fun _ => bodyPost m c) from BI.Entails.refl _)
  imod (close_post m K c) $$ [Hpost Hk] with ⟨HΦ, %W', HO⟩
  · isplitr; · iexact HC
    isplitl [Hpost]; · iexact Hpost
    iexact Hk
  imodintro
  unfold bodyPost Dat.owesAt Pipeline.owesWithin wts
  rw [show (dats m 0 c).owed t0_0.succ = 0 from rfl]
  isplitl [HΦ]; · iexact HΦ
  isplitl [HO]
  · iexists W'
    isplitr; · ipureintro; exact fun _ _ => Or.inl trivial
    iexact HO
  iexact Hg

set_option maxRecDepth 65536 in
/-- The body, as printed. -/
theorem sound_printed (c : Dev nD) :
    bodyPre m c ⊢ Wp c (cc0_body (F := F) aP (Memref.isWhole_whole _) aR (Memref.isWhole_whole _) stgM (Memref.isWhole_whole _) aO (Memref.isWhole_whole _)
      ohA (Memref.isWhole_whole _) ohB (Memref.isWhole_whole _) pbA (Memref.isWhole_whole _) pbF (Memref.isWhole_whole _)
      rdA (Memref.isWhole_whole _) fwd (Memref.isWhole_whole _) ouA (Memref.isWhole_whole _) ouB (Memref.isWhole_whole _)
      cc0_scratch8 cc0_scratch9 cc0_scratch10 cc0_scratch11 cc0_scratch12 cc0_scratch13 cc0_scratch14 cc0_scratch15) (fun _ => bodyPost m c) :=
  (sound_body m c).trans (Entails.of_eq (congrArg (fun p => Wp c p (fun _ => bodyPost m c)) (body_eq stgM (Memref.isWhole_whole _)).symm))

set_option maxRecDepth 65536 in
/-- The obligation of the launch. -/
theorem body_obligation (c : Dev nD) : BodyObligation (dats (F := F) m 0 c) (defs₀ (F := F)) 𝒱₀ 0 Set.univ := fun t => by
  rw [fin_N0 t, bigSep_W0, bigSep_W0]
  exact sound_printed m c

/-! ## Waits of the staging copy -/

omit [FloatOps F] in
theorem O₀_pos {c : Dev nD} {g : GSem nD τ sig} {i : ℕ} (h : 0 < O₀ c g i) : i ∈ L g ∧ 0 < lv g i := by
  have bar (d : Dir) (hb : 0 < tallyAt (barCell (nbr d c)) 0 1 g i) : i ∈ L g ∧ 0 < lv g i := by
    rw [tallyAt_apply] at hb
    by_cases hn : g = barCell (nbr d c) ∧ i = 0
    · obtain ⟨rfl, rfl⟩ := hn
      exact ⟨mem_L _ _ (by decide), Nat.one_pos⟩
    · rw [if_neg hn] at hb; exact absurd hb (Nat.lt_irrefl 0)
  unfold O₀ at h
  rw [Pi.add_apply, Finsupp.add_apply, Pi.add_apply, Finsupp.add_apply] at h
  by_cases hy : 0 < tallyAt (barCell (nbr .y c)) 0 1 g i
  · exact bar .y hy
  by_cases hx : 0 < tallyAt (barCell (nbr .x c)) 0 1 g i
  · exact bar .x hx
  obtain ⟨d, j, -, rfl, rfl⟩ := ow_pos (c := c) (ky := 0) (kx := 0) (g := g) (i := i) (by omega)
  refine ⟨mem_L _ _ j.isLt, ?_⟩
  cases d
  · rw [lv_rcv_y]; omega
  · rw [lv_rcv_x]; omega

theorem waits (c : Dev nD) : (levAts L lv : sProp 𝕄) ⊢ Pipeline.cellsWaits cfgs (dats m) 0 0 c :=
  Pipeline.cellsWaits_intro cfgs (dats m) 0 0 c fun w s t => by
    have hl : lv ((c : Thread nD τ), .dma ((cfg0.win w).sem s)) 0 = 0 := by fin_cases w; fin_cases s; rfl
    rcases t with ⟨_ | _, ht⟩
    · exact Pipeline.mayWait_of_levAts (mem_L c _ (by decide)) fun g i hg => ⟨(O₀_pos hg).1, by rw [hl]; exact (O₀_pos hg).2⟩
    · show _ ⊢ MayWait _ _ _ 0
      rw [MayWait_zero]; iintro -; iempintro

/-! ## The side conditions of the launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none]
  rw [show (Pipeline.unscopedRest cfg0.spec c (fun b => m ((c : Thread nD τ).loc b)) : sProp 𝕄) = _ from unscopedRest0_eq c _]
  unfold start arrays levs
  iintro ⟨Harr, Hlev, Hcr, -, HG⟩
  imodintro
  isplitl
  · isplitl [HG]; · iexact HG
    isplitl [Hlev]; · iexact Hlev
    isplitl [Hcr]; · iexact Hcr
    iexact Harr
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(finish m c ∗ own0 c ∗ Pipeline.scopedRest cfg0.spec c) :=
  show Φ₁ m c ⊢ _ from BI.Entails.refl _

/-! ## What every final memory holds -/

/-- A device's result and arguments in a memory. -/
def Holds (c : Dev nD) (s : (ℓ : Loc nD τ sig) → Buf (Elt F) ℓ) : Prop :=
  (s ((c : Thread nD τ).loc main_arg0) = m ((c : Thread nD τ).loc main_arg0) ∧ s ((c : Thread nD τ).loc main_arg1) = m ((c : Thread nD τ).loc main_arg1))
  ∧ (∀ j : Fin 8, (rowOA c j).view.read (Elt F) (s ((c : Thread nD τ).loc main_v1)) = OA m c j)
  ∧ (∀ j : Fin 8, (rowOB c j).view.read (Elt F) (s ((c : Thread nD τ).loc main_v1)) = OB m c j)

omit [FloatOps F] in
theorem read_arg (c : Dev nD) (b : Ref sig .tc) (f : Buf (Elt F) ((c : Thread nD τ).loc b)) (q : PosShare TreeShare) (st : Phys nD τ sig (Elt F)) :
    iprop((((c : Thread nD τ).loc b) ↦{q} f) ∗ SI st) ⊢ (⌜st.mem.mem ((c : Thread nD τ).loc b) = f⌝ : sProp 𝕄) := by
  iintro ⟨H, HSI⟩
  ihave %h := (SI_pointsTo_agree (st := st)) $$ [HSI H]
  · isplitl [HSI]; · iexact HSI
    iexact H
  ipureintro
  exact funext fun i => h i (Finset.mem_univ i)

omit [FloatOps F] in
/-- What holds of every member of a family held beside the state. -/
theorem read_all {I : Type} [DecidableEq I] [Fintype I] {Φ : I → sProp 𝕄} {φ : I → Prop} {st : Phys nD τ sig (Elt F)}
    (h : ∀ i, iprop(Φ i ∗ SI st) ⊢ (⌜φ i⌝ : sProp 𝕄)) : iprop(bigSep Finset.univ Φ ∗ SI st) ⊢ (⌜∀ i, φ i⌝ : sProp 𝕄) := by
  have h' (i : I) : iprop(bigSep Finset.univ Φ ∗ SI st) ⊢ (⌜φ i⌝ : sProp 𝕄) :=
    (sep_mono_left (bigSep_elim (Finset.mem_univ i))).trans (h i)
  exact (forall_intro h').trans pure_forall.2

theorem finish_read (c : Dev nD) (st : Phys nD τ sig (Elt F)) :
    iprop(finish m c ∗ emp ∗ SI st)
      ⊢ |={Set.univ}=> (iprop(⌜Holds m c st.mem.mem ∧ ∀ sm : SemLoc sig, sm.isScoped .tc = false → st.mem.sem ((c.tc : Thread nD τ), sm) = 0⌝ ∗ SI st) : sProp 𝕄) := by
  have hA : iprop(doneA m c 8 ∗ SI st) ⊢ (⌜∀ j : Fin 8, (rowOA c j).view.read (Elt F) (st.mem.mem ((c : Thread nD τ).loc main_v1)) = OA m c j⌝ : sProp 𝕄) := by
    unfold doneA; rw [below_eight]
    exact read_all fun j => read_owns c (rowOA c j) fullShare (OA m c j) st
  have hB : iprop(doneB m c 8 ∗ SI st) ⊢ (⌜∀ j : Fin 8, (rowOB c j).view.read (Elt F) (st.mem.mem ((c : Thread nD τ).loc main_v1)) = OB m c j⌝ : sProp 𝕄) := by
    unfold doneB; rw [below_eight]
    exact read_all fun j => read_owns c (rowOB c j) fullShare (OB m c j) st
  unfold finish keep
  iintro ⟨⟨Hu, ⟨H0, H1⟩, HA, HB⟩, -, HSI⟩
  ihave %h0 := (read_arg c main_arg0 _ _ st) $$ [H0 HSI]
  · isplitl [H0]; · iexact H0
    iexact HSI
  ihave %h1 := (read_arg c main_arg1 _ _ st) $$ [H1 HSI]
  · isplitl [H1]; · iexact H1
    iexact HSI
  ihave %hA := hA $$ [HA HSI]
  · isplitl [HA]; · iexact HA
    iexact HSI
  ihave %hB := hB $$ [HB HSI]
  · isplitl [HB]; · iexact HB
    iexact HSI
  imod (Pipeline.unscopedSems0_read (X := unscopedSems0 c) (c := c) fupd_intro st) $$ [Hu HSI] with ⟨%hs, HSI⟩
  · isplitl [Hu]; · iexact Hu
    iexact HSI
  imodintro
  isplitr
  · ipureintro; exact ⟨⟨⟨h0, h1⟩, hA, hB⟩, hs⟩
  iexact HSI

set_option maxRecDepth 65536 in
/-- The run: arguments unchanged, the result's rows as computed, every counter at zero. -/
theorem run_main : θ_run (defs (F := F)) (onTc (τ := τ) (main (F := F))) ⟨m, fun _ => 0, ρ⟩
    (fun r => (∀ c : Dev nD, Holds m c r.2.mem ∧ r.2.mem ((c : Thread nD τ).loc main_arg2) = m ((c : Thread nD τ).loc main_arg2))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0)
    (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (show BI.own ((embR : Emb (UB × Counters) 𝕄) (initOf protoCells protoToks, 1)) ⊢ (|==> bigSep Finset.univ (G m) : sProp 𝕄) from fund m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m) (hout := phi1_exit m)
    (QY := fun c s => Holds m c s.mem ∧ ∀ sm : SemLoc sig, sm.isScoped .tc = false → s.sem ((c.tc : Thread nD τ), sm) = 0)
    (hY := fun c s' => finish_read m c s')
    (hQ := fun s h hs => ⟨fun c => ⟨(h c).2.2.1, ((h c).1 (0 : Fin 1)).trans ((dats (F := F) m 0 c).arrAt_in (0 : Fin 1) rfl _)⟩,
      sem_eq_zero hs fun c => (h c).2.2.2⟩)

end Cert.KernelIdeal.Pf

end
-- ==== Proof.Frames.lean ====
/- The kernel's runs, as printed and at the extended reals: the two programs have one text, so one run serves both. -/
module

public import proofs.«01_k».proof.Proof.Launch
public import proofs.«01_k».proof.Defs
public import proofs.«01_k».proof.Proof.Gen.Kernel

@[expose] public section

noncomputable section

namespace Cert.KernelIdeal.Pf

open Idealize.ShloMosaic Idealize.SL.Sem

variable {F : FTy → Type} [FloatOps F]

theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run (defs (F := F)) _ _).mono (fun _ h => ⟨fun c => ⟨(h.1 c).1.1.1, (h.1 c).1.1.2, (h.1 c).2⟩, h.2⟩) (run_main m ρ)

theorem frame_kernelIdeal : Cert.quiescent_KernelIdeal (hKernelIdeal := Cert.KernelIdeal.Gen.facts) :=
  fun m ρ _ => frame_any (F := Ideal) m ρ

set_option maxRecDepth 65536 in
/-- The two programs' body tables are one. -/
theorem tables_eq : Cert.Kernel.defs₀ (F := Bits) = Cert.KernelIdeal.defs₀ (F := Bits) := by
  refine congrArg Defs.onTc (funext fun l => funext fun a => ?_)
  match l, a with
  | 0, (t, s) => rfl
  | ⟨_ + 1, h⟩, _ => exact absurd h (Nat.not_lt.2 (Nat.le_add_left _ _))

theorem frame_kernel : Cert.quiescent_Kernel (hKernel := Cert.Kernel.Gen.facts) := fun m ρ _ => by
  have e : Cert.Kernel.defs (F := Bits) = Cert.KernelIdeal.defs (F := Bits) := congrArg (Pipeline.defs Cert.KernelIdeal.pcfgs) tables_eq
  rw [e]
  exact frame_any (F := Bits) m ρ

end Cert.KernelIdeal.Pf

end
-- ==== Proof.Norm.lean ====
/- The normalisation of one row over the extended reals: multiplying by the reciprocal root of a
   positive number is dividing by its root, and the mean square plus the small constant is positive. -/
module

public import Idealize.ShloMosaic.Lib.Pointwise

@[expose] public section

noncomputable section

namespace Cert.KernelIdeal.Pf

open Idealize.ShloMosaic

/-- The length of a row and the constant added to the mean square, as extended reals. -/
theorem len_eq : Ideal.ofBits .f32 0x45800000#32 = ((4096 : ℝ) : EReal) := by
  simp [Ideal.ofBits, Ideal.ieee, -EReal.coe_mul]; norm_num
theorem eps_pos : 0 < Ideal.ofBits .f32 0x358637BD#32 := by
  simp [Ideal.ofBits, Ideal.ieee, -EReal.coe_mul]
  try norm_num

theorem mul_self_nn (x : EReal) : 0 ≤ x * x := by
  induction x with
  | bot => simp
  | top => simp
  | coe r => exact_mod_cast mul_self_nonneg r

theorem mul_rsqrt (y s : EReal) (hs : 0 < s) : y * Ideal.rsqrt s = Ideal.div y (Ideal.sqrt s) := by
  induction s with
  | bot => simp at hs
  | top => simp [Ideal.div]
  | coe r =>
    have hr : 0 < r := by exact_mod_cast hs
    have h0 : Real.sqrt r ≠ 0 := (Real.sqrt_pos.mpr hr).ne'
    rw [Ideal.rsqrt_coe, Ideal.sqrt_coe, if_neg hr.not_gt, if_neg hr.ne', if_neg hr.not_gt, Ideal.div_coe h0, one_div]

/-- The mean square of a row, the small constant added. -/
def meanSq (y : Fin 4096 → EReal) : EReal :=
  Ideal.div (∑ k, y k * y k) (Ideal.ofBits .f32 0x45800000#32) + Ideal.ofBits .f32 0x358637BD#32

theorem meanSq_pos (y : Fin 4096 → EReal) : 0 < meanSq y := by
  unfold meanSq
  rw [len_eq, Ideal.div_coe (by norm_num)]
  refine lt_of_lt_of_le eps_pos ?_
  refine le_add_of_nonneg_left ?_
  refine mul_nonneg (Finset.sum_nonneg fun k _ => mul_self_nn _) ?_
  exact_mod_cast (by norm_num : (0 : ℝ) ≤ 1 / 4096)

/-- One entry of a normalised row, and the same with the root divided by. -/
def rowNorm (y : Fin 4096 → EReal) (g : EReal) (l : Fin 4096) : EReal := y l * Ideal.rsqrt (meanSq y) * g

theorem rowNorm_eq (y : Fin 4096 → EReal) (g : EReal) (l : Fin 4096) :
    rowNorm y g l = Ideal.div (y l) (Ideal.sqrt (meanSq y)) * g := by
  rw [rowNorm, mul_rsqrt _ _ (meanSq_pos y)]

end Cert.KernelIdeal.Pf

end
-- ==== Proof.Blocks.lean ====
/- What a device computes of one block, entry by entry over the extended reals.

   Narrowing keeps every value here, so a block of the sum is the two partial sums and the residual
   added, and a block of the output is that block's rows normalised and weighed. -/
module

public import proofs.«01_k».proof.Proof.Norm
public import proofs.«01_k».proof.Proof.Protocol

@[expose] public section

noncomputable section

namespace Cert.KernelIdeal.Pf

open Idealize.ShloMosaic
open Idealize.ShloMosaic.TcCoe
open Cert.KernelIdeal.Gen

/-! ## The operations of the body at an index -/

theorem narrow_at (v : S1x256x4096.Idx → Elt Ideal .f32) (x : S1x256x4096.Idx) :
    (narrow (F := Ideal) v x : EReal) = v x := by
  unfold narrow
  unfold_payloads
  pointwise

theorem ySum_at (a b : S256x4096.Idx → Elt Ideal .bf16) (r : S256x4096.Idx → Elt Ideal .f32) (x : S256x4096.Idx) :
    (ySum (F := Ideal) (un a) (un b) (un r) x : EReal) = a x + b x + r x := by
  have e : ∀ {t : EltTy} (v : S256x4096.Idx → Elt Ideal t), shapeCast S256x4096 (un v) shapeCasts_S1x256x4096_S256x4096 = v := fun v => by
    funext i; exact congrFun (sq_un v) i
  unfold ySum
  unfold_payloads
  simp only [e]
  pointwise

theorem yFwd_at (a b : S1x256x4096.Idx → Elt Ideal .bf16) (r : S1x256x4096.Idx → Elt Ideal .f32) (x : S256x4096.Idx) :
    (sq (F := Ideal) (e := .bf16) (yFwd (F := Ideal) a b r) x : EReal) = ySum (F := Ideal) a b r x := by
  show (shapeCast S256x4096 (yFwd (F := Ideal) a b r) shapeCasts_S1x256x4096_S256x4096 x : EReal) = _
  unfold yFwd ySum
  unfold_payloads
  pointwise

theorem normV_at (y : S256x4096.Idx → Elt Ideal .f32) (g : S4096.Idx → Elt Ideal .f32) (r : Fin 256) (l : Fin 4096) :
    (normV (F := Ideal) y g (ix2 r l) : EReal) = rowNorm (fun k => y (ix2 r k)) (g (ix1 l)) l := by
  unfold normV rowNorm meanSq
  unfold_payloads
  pointwise

theorem normB_at (y : S256x4096.Idx → Elt Ideal .bf16) (g : S4096.Idx → Elt Ideal .f32) (r : Fin 256) (l : Fin 4096) :
    (normB (F := Ideal) (un y) g (ix2 r l) : EReal) = rowNorm (fun k => y (ix2 r k)) (g (ix1 l)) l := by
  have e : ∀ {t : EltTy} (v : S256x4096.Idx → Elt Ideal t), shapeCast S256x4096 (un v) shapeCasts_S1x256x4096_S256x4096 = v := fun v => by
    funext i; exact congrFun (sq_un v) i
  unfold normB rowNorm meanSq
  unfold_payloads
  simp only [e]
  pointwise

/-! ## The blocks -/

variable (m : (ℓ : Loc nD τ sig) → Buf (Elt Ideal) ℓ) (c : Dev nD) (j : Fin 8)

theorem NB_at (x : S256x4096.Idx) : (NB m c j x : EReal) = PB m c j x := by
  unfold NB
  show (narrow (F := Ideal) (un (PB m c j)) _ : EReal) = _
  rw [narrow_at]
  exact congrFun (sq_un (PB m c j)) x

theorem YS_at (x : S256x4096.Idx) :
    (YS m c j x : EReal) = PB m c j x + PB m (nbr .y c) j x + RB m c j x := by
  unfold YS
  rw [ySum_at, NB_at, NB_at]

theorem YF_at (x : S256x4096.Idx) : (YF m c j x : EReal) = YS m c j x := by
  unfold YF YS
  exact yFwd_at _ _ _ x

theorem OA_at (r : Fin 256) (l : Fin 4096) :
    (OA m c j (ix2 r l) : EReal) = rowNorm (fun k => YS m c j (ix2 r k)) (gam m c (ix1 l)) l := by
  unfold OA; exact normV_at _ _ r l

theorem OB_at (r : Fin 256) (l : Fin 4096) :
    (OB m c j (ix2 r l) : EReal) = rowNorm (fun k => YS m (nbr .x c) j (ix2 r k)) (gam m c (ix1 l)) l := by
  unfold OB
  rw [normB_at]
  simp only [YF_at]

end Cert.KernelIdeal.Pf

end
-- ==== Proof.Rows.lean ====
/- Where a block's entries lie in the arrays, and that the blocks of the two halves are all the rows. -/
module

public import proofs.«01_k».proof.Proof.Blocks
public import proofs.«01_k».proof.Proof.Buffers
public import Idealize.ShloMosaic.Lib.Pipeline.ValueKit.Geometry

@[expose] public section

noncomputable section

namespace Cert.KernelIdeal.Pf

open Idealize.ShloMosaic
open Idealize.ShloMosaic.TcCoe
open Cert.KernelIdeal.Gen

variable (c : Dev nD) (j : Fin 8)

theorem rowA_le : rowA c ≤ 2048 := by have : c.val < 16 := c.isLt; unfold rowA; omega
theorem rowB_le : rowB c ≤ 2048 := by unfold rowB; omega

/-- Row `r` of block `j` of the own half, of the other half. -/
def inA (r : Fin 256) : Fin 4096 := ⟨rowA c + 256 * j.val + r.val, by have := rowA_le c; omega⟩
def inB (r : Fin 256) : Fin 4096 := ⟨rowB c + 256 * j.val + r.val, by have := rowB_le c; omega⟩

theorem rowA_nbr_y : rowA (nbr .y c) = rowA c := by revert c; decide
theorem rowA_nbr_x : rowA (nbr .x c) = rowB c := by revert c; decide

theorem inA_nbr_y (r : Fin 256) : inA (nbr .y c) j r = inA c j r := Fin.ext (by simp only [inA, rowA_nbr_y])
theorem inA_nbr_x (r : Fin 256) : inA (nbr .x c) j r = inB c j r := Fin.ext (by simp only [inA, inB, rowA_nbr_x])

/-- Every row is a row of a block of one half or of the other. -/
theorem row_cases (R : Fin 4096) : (∃ j r, R = inA c j r) ∨ (∃ j r, R = inB c j r) := by
  have hc : c.val < 16 := c.isLt
  have hR : R.val < 4096 := R.isLt
  by_cases h : R.val / 2048 = c.val / 8
  · refine .inl ⟨⟨R.val % 2048 / 256, by omega⟩, ⟨R.val % 256, by omega⟩, Fin.ext ?_⟩
    simp only [inA, rowA]; omega
  · refine .inr ⟨⟨R.val % 2048 / 256, by omega⟩, ⟨R.val % 256, by omega⟩, Fin.ext ?_⟩
    simp only [inB, rowB]; omega

/-! ## Entries of blocks -/

theorem rowOA_at (f : S4096x4096.Idx → Elt Ideal .f32) (r : Fin 256) (l : Fin 4096) :
    (rowOA c j).view.read (Elt Ideal) f (ix2 r l) = f (ix2 (inA c j r) l) := by
  refine congrArg f (funext fun a => Fin.ext ?_)
  refine (ValueKit.rect_emb_unit_val (s := S4096x4096) (offA c j) S256x4096.size (k0_off3_inb c j) (ix2 r l) a).trans ?_
  refine (congrArg (· + _) (congrFun (offA_eq c j) a)).trans ?_
  match a with
  | 0 => rfl
  | 1 => exact Nat.zero_add _

theorem rowOB_at (f : S4096x4096.Idx → Elt Ideal .f32) (r : Fin 256) (l : Fin 4096) :
    (rowOB c j).view.read (Elt Ideal) f (ix2 r l) = f (ix2 (inB c j r) l) := by
  refine congrArg f (funext fun a => Fin.ext ?_)
  refine (ValueKit.rect_emb_unit_val (s := S4096x4096) (offB c j) S256x4096.size (k0_off5_inb c j) (ix2 r l) a).trans ?_
  refine (congrArg (· + _) (congrFun (offB_eq c j) a)).trans ?_
  match a with
  | 0 => rfl
  | 1 => exact Nat.zero_add _

theorem rowP_at (f : S1x4096x4096.Idx → Elt Ideal .f32) (r : Fin 256) (l : Fin 4096) :
    (rowP c j).view.read (Elt Ideal) f (ix2 r l) = f (ix3 0 (inA c j r) l) := by
  have e : Shape.reshapeEquiv squeezes_S1x256x4096_S256x4096.numel_eq (ix2 r l) = ix3 0 r l := by pointwise
  show f ((boxP c j).emb (Shape.reshapeEquiv squeezes_S1x256x4096_S256x4096.numel_eq (ix2 r l))) = _
  rw [e]
  refine congrArg f (funext fun a => Fin.ext ?_)
  refine (ValueKit.rect_emb_unit_val (s := S1x4096x4096) (offP c j) S1x256x4096.size (offP_inb c j) (ix3 0 r l) a).trans ?_
  refine (congrArg (· + _) (congrFun (offP_eq c j) a)).trans ?_
  match a with
  | 0 => rfl
  | 1 => rfl
  | 2 => exact Nat.zero_add _

variable (m : (ℓ : Loc nD τ sig) → Buf (Elt Ideal) ℓ)

theorem PB_at (r : Fin 256) (l : Fin 4096) :
    PB m c j (ix2 r l) = m ((c : Thread nD τ).loc main_arg0) (ix3 0 (inA c j r) l) := rowP_at c j _ r l

theorem RB_at (r : Fin 256) (l : Fin 4096) :
    RB m c j (ix2 r l) = m ((c : Thread nD τ).loc main_arg1) (ix2 (inA c j r) l) :=
  rowOA_at c j (m ((c : Thread nD τ).loc main_arg1)) r l

theorem gam_at (l : Fin 4096) : gam m c (ix1 l) = m ((c : Thread nD τ).loc main_arg2) (ix1 l) := by
  refine congrArg (m ((c : Thread nD τ).loc main_arg2)) (funext fun a => Fin.ext ?_)
  match a with
  | 0 => exact (ValueKit.rect_emb_unit_val (s := S4096) _ _ _ (ix1 l) 0).trans (Nat.zero_add _)

end Cert.KernelIdeal.Pf

end
-- ==== Proof.Value.lean ====
/- The value: on every device the kernel leaves what the reference computes.

   The reference's result at a row is that row of the two partial sums and the residual added,
   normalised and weighed. A device's rows of the sum are these in whichever order the two partial
   sums are added, and every row of its output is such a row, its own or its neighbour's. -/
module

public import proofs.«01_k».proof.Defs
public import proofs.«01_k».proof.Proof.Rows
public import proofs.«01_k».proof.Proof.Launch
public import proofs.«01_k».proof.Proof.Gen.ReferenceIdeal
public import proofs.«01_k».proof.Proof.Gen.ReferenceIdeal.Run

@[expose] public section

noncomputable section

namespace Cert.KernelIdeal.Pf

open Idealize.ShloMosaic
open Idealize.ShloMosaic.TcCoe
open Idealize.SL.Sem
open Cert.KernelIdeal.Gen

/-! ## The reference -/

section Reference
variable (P : Cert.ReferenceIdeal.S2x4096x4096.Idx → Elt Ideal .f32) (R : S4096x4096.Idx → Elt Ideal .f32) (g : S4096.Idx → Elt Ideal .f32)

/-- An entry of the sum of the partial sums and the residual. -/
def total (r l : Fin 4096) : EReal := P (ix3 0 r l) + P (ix3 1 r l) + R (ix2 r l)

/-- The result. -/
def target : S4096x4096.Idx → Elt Ideal .f32 := fun x => rowNorm (total P R (x 0)) (g (ix1 (x 1))) (x 1)

open Cert.ReferenceIdeal Cert.ReferenceIdeal.Gen in
theorem reference_sum (r l : Fin 4096) :
    (addf (Host.reduceAdd P (constant (F := Ideal) Cert.ReferenceIdeal.S_ .f32 0x00000000#32) reducesTo_S2x4096x4096_S4096x4096_d0 h_S_) R (ix2 r l) : EReal) = total P R r l := by
  unfold total
  pointwise
  rw [Fin.sum_univ_two]

open Cert.ReferenceIdeal Cert.ReferenceIdeal.Gen in
theorem reference_norm (Y : S4096x4096.Idx → Elt Ideal .f32) (r l : Fin 4096) :
    (mulf (Host.divf Y (broadcastInDim Cert.ReferenceIdeal.S4096x4096 ![0, 1] bcast_S4096x1_S4096x4096_0_1 (Host.sqrt (addf (Host.divf (broadcastInDim S4096x1 ![0] bcast_S4096_S4096x1_0 (Host.reduceAdd (mulf Y Y) (constant (F := Ideal) Cert.ReferenceIdeal.S_ .f32 0x00000000#32) reducesTo_S4096x4096_S4096_d1 h_S_)) (broadcastInDim S4096x1 ![] bcast_S_S4096x1 (constant (F := Ideal) Cert.ReferenceIdeal.S_ .f32 0x45800000#32))) (broadcastInDim S4096x1 ![] bcast_S_S4096x1 (constant (F := Ideal) Cert.ReferenceIdeal.S_ .f32 0x358637BD#32)))))) (broadcastInDim Cert.ReferenceIdeal.S4096x4096 ![0, 1] bcast_S1x4096_S4096x4096_0_1 (broadcastInDim Cert.ReferenceIdeal.S1x4096 ![1] bcast_S4096_S1x4096_1 g)) (ix2 r l) : EReal)
      = rowNorm (fun k => Y (ix2 r k)) (g (ix1 l)) l := by
  rw [rowNorm_eq]
  unfold meanSq
  pointwise

end Reference

theorem run_reference (m : (ℓ : Loc Cert.ReferenceIdeal.nD Cert.ReferenceIdeal.τ Cert.ReferenceIdeal.sig) → Buf (Elt Ideal) ℓ)
    (ρ : Dev Cert.ReferenceIdeal.nD → PrngReg) (P : Cert.ReferenceIdeal.S2x4096x4096.Idx → Elt Ideal .f32)
    (R : S4096x4096.Idx → Elt Ideal .f32) (g : S4096.Idx → Elt Ideal .f32)
    (hP : P = m (((0 : Dev Cert.ReferenceIdeal.nD) : Thread Cert.ReferenceIdeal.nD Cert.ReferenceIdeal.τ).loc Cert.ReferenceIdeal.main_arg0))
    (hR : R = m (((0 : Dev Cert.ReferenceIdeal.nD) : Thread Cert.ReferenceIdeal.nD Cert.ReferenceIdeal.τ).loc Cert.ReferenceIdeal.main_arg1))
    (hg : g = m (((0 : Dev Cert.ReferenceIdeal.nD) : Thread Cert.ReferenceIdeal.nD Cert.ReferenceIdeal.τ).loc Cert.ReferenceIdeal.main_arg2)) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD) : Thread Cert.ReferenceIdeal.nD Cert.ReferenceIdeal.τ).loc Cert.ReferenceIdeal.main_v14) = target P R g
      ∧ r.2.mem (((0 : Dev Cert.ReferenceIdeal.nD) : Thread Cert.ReferenceIdeal.nD Cert.ReferenceIdeal.τ).loc Cert.ReferenceIdeal.main_arg0) = m (((0 : Dev Cert.ReferenceIdeal.nD) : Thread Cert.ReferenceIdeal.nD Cert.ReferenceIdeal.τ).loc Cert.ReferenceIdeal.main_arg0)
      ∧ r.2.mem (((0 : Dev Cert.ReferenceIdeal.nD) : Thread Cert.ReferenceIdeal.nD Cert.ReferenceIdeal.τ).loc Cert.ReferenceIdeal.main_arg1) = m (((0 : Dev Cert.ReferenceIdeal.nD) : Thread Cert.ReferenceIdeal.nD Cert.ReferenceIdeal.τ).loc Cert.ReferenceIdeal.main_arg1)
      ∧ r.2.mem (((0 : Dev Cert.ReferenceIdeal.nD) : Thread Cert.ReferenceIdeal.nD Cert.ReferenceIdeal.τ).loc Cert.ReferenceIdeal.main_arg2) = m (((0 : Dev Cert.ReferenceIdeal.nD) : Thread Cert.ReferenceIdeal.nD Cert.ReferenceIdeal.τ).loc Cert.ReferenceIdeal.main_arg2)) := by
  refine (θ_run _ _ _).mono (fun r h => ⟨(h 0).1.trans ?_, (h 0).2⟩) (Cert.ReferenceIdeal.Value.run (F := Ideal) m ρ)
  rw [← hP, ← hR, ← hg]
  funext x
  obtain ⟨r, l, rfl⟩ : ∃ r l, x = ix2 r l := ⟨x 0, x 1, by funext a; match a with | 0 => rfl | 1 => rfl⟩
  refine (reference_norm g _ r l).trans ?_
  exact congrArg (fun y => rowNorm y (g (ix1 l)) l) (funext fun k => reference_sum P R r k)

/-! ## The kernel -/

section Kernel
variable (m : (ℓ : Loc nD τ sig) → Buf (Elt Ideal) ℓ)
  (P : Cert.ReferenceIdeal.S2x4096x4096.Idx → Elt Ideal .f32) (R : S4096x4096.Idx → Elt Ideal .f32) (g : S4096.Idx → Elt Ideal .f32)

/-- Each device holds its block of the partial sums, and the residual and the weights whole. -/
def Agrees : Prop := ∀ c : Dev nD,
  m ((c : Thread nD τ).loc main_arg0) = Layout.blockN ⟨3, ![1, 4096, 4096]⟩ ⟨3, ![2, 4096, 4096]⟩ (Layout.meshBlock [2, 2, 4] ![[1], [], []] c) P
  ∧ m ((c : Thread nD τ).loc main_arg1) = R
  ∧ m ((c : Thread nD τ).loc main_arg2) = g

/-- The partial sum a device holds. -/
def part (c : Dev nD) : Fin 2 := ⟨c.val / 4 % 2, by omega⟩

theorem part_nbr (c : Dev nD) : (part c = 0 ∧ part (nbr .y c) = 1) ∨ (part c = 1 ∧ part (nbr .y c) = 0) := by
  revert c; decide

variable {m P R g} (h : Agrees m P R g)
include h

theorem PB_total (c : Dev nD) (j : Fin 8) (r : Fin 256) (l : Fin 4096) :
    PB m c j (ix2 r l) = P (ix3 (part c) (inA c j r) l) := by
  rw [PB_at, (h c).1]
  refine congrArg P (funext fun a => Fin.ext ?_)
  rw [Layout.TilesN.idx_val]
  match a with
  | 0 =>
    show Layout.meshLin [2, 2, 4] c.val [1] * 1 + 0 = c.val / 4 % 2
    simp [Layout.meshLin, Layout.meshCoord, Layout.cutSize]
  | 1 => show 0 * 4096 + _ = _; rw [Nat.zero_mul, Nat.zero_add]; rfl
  | 2 => show 0 * 4096 + _ = _; rw [Nat.zero_mul, Nat.zero_add]; rfl

theorem YS_total (c : Dev nD) (j : Fin 8) (r : Fin 256) (l : Fin 4096) :
    (YS m c j (ix2 r l) : EReal) = total P R (inA c j r) l := by
  rw [YS_at, PB_total h, PB_total h, RB_at, (h c).2.1, inA_nbr_y]
  unfold total
  rcases part_nbr c with ⟨h0, h1⟩ | ⟨h0, h1⟩ <;> rw [h0, h1]
  exact congrArg (· + _) (add_comm (G := EReal) _ _)

theorem OA_target (c : Dev nD) (j : Fin 8) (r : Fin 256) (l : Fin 4096) :
    OA m c j (ix2 r l) = target P R g (ix2 (inA c j r) l) := by
  refine (OA_at m c j r l).trans ?_
  rw [gam_at, (h c).2.2, funext fun k => YS_total h c j r k]
  rfl

theorem OB_target (c : Dev nD) (j : Fin 8) (r : Fin 256) (l : Fin 4096) :
    OB m c j (ix2 r l) = target P R g (ix2 (inB c j r) l) := by
  refine (OB_at m c j r l).trans ?_
  rw [gam_at, (h c).2.2, funext fun k => YS_total h (nbr .x c) j r k, inA_nbr_x]
  rfl

/-- The rows a device holds are the whole result. -/
theorem result_eq (c : Dev nD) (f : S4096x4096.Idx → Elt Ideal .f32)
    (hA : ∀ j : Fin 8, (rowOA c j).view.read (Elt Ideal) f = OA m c j)
    (hB : ∀ j : Fin 8, (rowOB c j).view.read (Elt Ideal) f = OB m c j) : f = target P R g := by
  funext x
  obtain ⟨r, l, rfl⟩ : ∃ r l, x = ix2 r l := ⟨x 0, x 1, by funext a; match a with | 0 => rfl | 1 => rfl⟩
  rcases row_cases c r with ⟨j, i, rfl⟩ | ⟨j, i, rfl⟩
  · exact (rowOA_at c j f i l).symm.trans ((congrFun (hA j) _).trans (OA_target h c j i l))
  · exact (rowOB_at c j f i l).symm.trans ((congrFun (hB j) _).trans (OB_target h c j i l))

end Kernel

/-- The kernel computes what the reference does. -/
theorem algebraic : Cert.algebraic_KernelIdeal_ReferenceIdeal
    (hKernelIdeal := Cert.KernelIdeal.Gen.facts) (hReferenceIdeal := Cert.ReferenceIdeal.Gen.facts) := by
  intro m ρ m' ρ' _ h
  refine ⟨target _ _ _, ?_, run_reference m' ρ' _ _ _ rfl rfl rfl⟩
  refine (θ_run _ _ _).mono (fun r hr c => ?_) (run_main (F := Ideal) m ρ)
  obtain ⟨⟨⟨h0, h1⟩, hA, hB⟩, h2⟩ := hr.1 c
  exact ⟨result_eq (m := m) h c _ hA hB, h0, h1, h2⟩

end Cert.KernelIdeal.Pf

end
-- ==== Proof.lean ====
/- The proof of the certificate's claim: the frames, that nothing was rewritten, the value. -/
module

public import proofs.«01_k».proof.Defs
public import proofs.«01_k».proof.Proof.Frames
public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic Idealize.SL.Sem

/-- The reference declares no semaphore and writes no argument. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.KernelIdeal.Pf.frame_kernel, Cert.KernelIdeal.Pf.frame_kernelIdeal, frame_reference, trivial, Cert.KernelIdeal.Pf.algebraic⟩

end Cert.Proof

end
